-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x1024 : Shape := ⟨2, ![256, 1024]⟩
abbrev S1024x1024 : Shape := ⟨2, ![1024, 1024]⟩
abbrev S8x2x256x128 : Shape := ⟨4, ![8, 2, 256, 128]⟩
abbrev S8x6x256x128 : Shape := ⟨4, ![8, 6, 256, 128]⟩
abbrev S8x6 : Shape := ⟨2, ![8, 6]⟩
abbrev S_ : Shape := ⟨0, ![]⟩
abbrev S256x256 : Shape := ⟨2, ![256, 256]⟩
abbrev S1x1 : Shape := ⟨2, ![1, 1]⟩
abbrev S1x1x256x128 : Shape := ⟨4, ![1, 1, 256, 128]⟩
abbrev S256x128 : Shape := ⟨2, ![256, 128]⟩

abbrev nBuf : Space → Nat
  | .hbm => 3
  | .vmem => 6
  | .smem => 0
  | _ => 0

abbrev bufTy : (tb : Table) → Fin (tcTables nBuf tb) → BufTy
  | .hbm, ⟨0, _⟩ => ⟨S1024x256, .bf16⟩
  | .hbm, ⟨1, _⟩ => ⟨S256x1024, .bf16⟩
  | .hbm, ⟨2, _⟩ => ⟨S1024x1024, .f32⟩
  | .local _ .vmem, ⟨0, _⟩ => ⟨S1024x256, .bf16⟩
  | .local _ .vmem, ⟨1, _⟩ => ⟨S256x1024, .bf16⟩
  | .local _ .vmem, ⟨2, _⟩ => ⟨S1024x1024, .f32⟩
  | .local _ .vmem, ⟨3, _⟩ => ⟨S1024x1024, .bf16⟩
  | .local _ .vmem, ⟨4, _⟩ => ⟨S8x2x256x128, .bf16⟩
  | .local _ .vmem, ⟨5, _⟩ => ⟨S8x6x256x128, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  (ofTc nBuf bufTy 1 99 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_22 : BitVec 32 := 1#32
  let v36 : BitVec 32 := Scalar.muli v13 c1_i32_22
  let v37 : BitVec 32 := Scalar.addi c0_i32_23 v36
  v37.toNat
def k0_dev2 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_25 : BitVec 32 := 1#32
  let v38 : BitVec 32 := Scalar.muli v24 c1_i32_25
  let v39 : BitVec 32 := Scalar.addi c0_i32_26 v38
  v39.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_28 : BitVec 32 := 4#32
  let c0_i32_29 : BitVec 32 := 0#32
  let v42 : BitVec 1 := Scalar.cmpi .eq c4_i32_28 c0_i32_29
  let c1_i32_30 : BitVec 32 := 1#32
  let v43 : BitVec 32 := Scalar.select v42 c1_i32_30 c4_i32_28
  let v44 : BitVec 32 := Scalar.remsi v2 v43
  let c0_i32_32 : BitVec 32 := 0#32
  let v46 : BitVec 1 := Scalar.cmpi .slt v44 c0_i32_32
  let c0_i32_33 : BitVec 32 := 0#32
  let v47 : BitVec 1 := Scalar.cmpi .slt v43 c0_i32_33
  let v48 : BitVec 1 := Scalar.xori v46 v47
  let c0_i32_31 : BitVec 32 := 0#32
  let v45 : BitVec 1 := Scalar.cmpi .ne v44 c0_i32_31
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : Index := Scalar.indexCast v52
  let c0_34 : Index := 0#32
  ![v53.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_35 : BitVec 32 := 4#32
  let c0_i32_36 : BitVec 32 := 0#32
  let v58 : BitVec 1 := Scalar.cmpi .eq c4_i32_35 c0_i32_36
  let c1_i32_37 : BitVec 32 := 1#32
  let v59 : BitVec 32 := Scalar.select v58 c1_i32_37 c4_i32_35
  let v60 : BitVec 32 := Scalar.remsi v2 v59
  let c0_i32_39 : BitVec 32 := 0#32
  let v62 : BitVec 1 := Scalar.cmpi .slt v60 c0_i32_39
  let c0_i32_40 : BitVec 32 := 0#32
  let v63 : BitVec 1 := Scalar.cmpi .slt v59 c0_i32_40
  let v64 : BitVec 1 := Scalar.xori v62 v63
  let c0_i32_38 : BitVec 32 := 0#32
  let v61 : BitVec 1 := Scalar.cmpi .ne v60 c0_i32_38
  let v65 : BitVec 1 := Scalar.andi v64 v61
  let v66 : BitVec 32 := Scalar.addi v60 v59
  let v67 : BitVec 32 := Scalar.select v65 v66 v60
  let c256_i32_41 : BitVec 32 := 256#32
  let v68 : BitVec 32 := Scalar.muli v67 c256_i32_41
  let v69 : Index := Scalar.indexCast v68
  let c0_42 : Index := 0#32
  ![v69.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_44 : BitVec 32 := 4#32
  let c0_i32_45 : BitVec 32 := 0#32
  let v73 : BitVec 1 := Scalar.cmpi .eq c4_i32_44 c0_i32_45
  let c1_i32_46 : BitVec 32 := 1#32
  let v74 : BitVec 32 := Scalar.select v73 c1_i32_46 c4_i32_44
  let v75 : BitVec 32 := Scalar.remsi v2 v74
  let c0_i32_48 : BitVec 32 := 0#32
  let v77 : BitVec 1 := Scalar.cmpi .slt v75 c0_i32_48
  let c0_i32_49 : BitVec 32 := 0#32
  let v78 : BitVec 1 := Scalar.cmpi .slt v74 c0_i32_49
  let v79 : BitVec 1 := Scalar.xori v77 v78
  let c0_i32_47 : BitVec 32 := 0#32
  let v76 : BitVec 1 := Scalar.cmpi .ne v75 c0_i32_47
  let v80 : BitVec 1 := Scalar.andi v79 v76
  let v81 : BitVec 32 := Scalar.addi v75 v74
  let v82 : BitVec 32 := Scalar.select v80 v81 v75
  let c256_i32_50 : BitVec 32 := 256#32
  let v83 : BitVec 32 := Scalar.muli v82 c256_i32_50
  let c0_i32_61 : BitVec 32 := 0#32
  ![v83.toNat, 0]
def k0_dev3 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_57 : BitVec 32 := 1#32
  let v84 : BitVec 32 := Scalar.muli v24 c1_i32_57
  let v85 : BitVec 32 := Scalar.addi c0_i32_58 v84
  v85.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_62 : BitVec 32 := 4#32
  let c0_i32_63 : BitVec 32 := 0#32
  let v93 : BitVec 1 := Scalar.cmpi .eq c4_i32_62 c0_i32_63
  let c1_i32_64 : BitVec 32 := 1#32
  let v94 : BitVec 32 := Scalar.select v93 c1_i32_64 c4_i32_62
  let v95 : BitVec 32 := Scalar.remsi v2 v94
  let c0_i32_66 : BitVec 32 := 0#32
  let v97 : BitVec 1 := Scalar.cmpi .slt v95 c0_i32_66
  let c0_i32_67 : BitVec 32 := 0#32
  let v98 : BitVec 1 := Scalar.cmpi .slt v94 c0_i32_67
  let v99 : BitVec 1 := Scalar.xori v97 v98
  let c0_i32_65 : BitVec 32 := 0#32
  let v96 : BitVec 1 := Scalar.cmpi .ne v95 c0_i32_65
  let v100 : BitVec 1 := Scalar.andi v99 v96
  let v101 : BitVec 32 := Scalar.addi v95 v94
  let v102 : BitVec 32 := Scalar.select v100 v101 v95
  let c256_i32_68 : BitVec 32 := 256#32
  let v103 : BitVec 32 := Scalar.muli v102 c256_i32_68
  let c512_i32 : BitVec 32 := 512#32
  ![v103.toNat, 512]
def k0_dev4 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_75 : BitVec 32 := 1#32
  let v104 : BitVec 32 := Scalar.muli v13 c1_i32_75
  let v105 : BitVec 32 := Scalar.addi c0_i32_76 v104
  v105.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_79 : BitVec 32 := 4#32
  let c0_i32_80 : BitVec 32 := 0#32
  let v113 : BitVec 1 := Scalar.cmpi .eq c4_i32_79 c0_i32_80
  let c1_i32_81 : BitVec 32 := 1#32
  let v114 : BitVec 32 := Scalar.select v113 c1_i32_81 c4_i32_79
  let v115 : BitVec 32 := Scalar.remsi v2 v114
  let c0_i32_83 : BitVec 32 := 0#32
  let v117 : BitVec 1 := Scalar.cmpi .slt v115 c0_i32_83
  let c0_i32_84 : BitVec 32 := 0#32
  let v118 : BitVec 1 := Scalar.cmpi .slt v114 c0_i32_84
  let v119 : BitVec 1 := Scalar.xori v117 v118
  let c0_i32_82 : BitVec 32 := 0#32
  let v116 : BitVec 1 := Scalar.cmpi .ne v115 c0_i32_82
  let v120 : BitVec 1 := Scalar.andi v119 v116
  let v121 : BitVec 32 := Scalar.addi v115 v114
  let v122 : BitVec 32 := Scalar.select v120 v121 v115
  let c256_i32_85 : BitVec 32 := 256#32
  let v123 : BitVec 32 := Scalar.muli v122 c256_i32_85
  let c128_i32 : BitVec 32 := 128#32
  ![v123.toNat, 128]
def k0_dev5 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_92 : BitVec 32 := 1#32
  let v124 : BitVec 32 := Scalar.muli v24 c1_i32_92
  let v125 : BitVec 32 := Scalar.addi c0_i32_93 v124
  v125.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_96 : BitVec 32 := 4#32
  let c0_i32_97 : BitVec 32 := 0#32
  let v133 : BitVec 1 := Scalar.cmpi .eq c4_i32_96 c0_i32_97
  let c1_i32_98 : BitVec 32 := 1#32
  let v134 : BitVec 32 := Scalar.select v133 c1_i32_98 c4_i32_96
  let v135 : BitVec 32 := Scalar.remsi v2 v134
  let c0_i32_100 : BitVec 32 := 0#32
  let v137 : BitVec 1 := Scalar.cmpi .slt v135 c0_i32_100
  let c0_i32_101 : BitVec 32 := 0#32
  let v138 : BitVec 1 := Scalar.cmpi .slt v134 c0_i32_101
  let v139 : BitVec 1 := Scalar.xori v137 v138
  let c0_i32_99 : BitVec 32 := 0#32
  let v136 : BitVec 1 := Scalar.cmpi .ne v135 c0_i32_99
  let v140 : BitVec 1 := Scalar.andi v139 v136
  let v141 : BitVec 32 := Scalar.addi v135 v134
  let v142 : BitVec 32 := Scalar.select v140 v141 v135
  let c256_i32_102 : BitVec 32 := 256#32
  let v143 : BitVec 32 := Scalar.muli v142 c256_i32_102
  let c640_i32 : BitVec 32 := 640#32
  ![v143.toNat, 640]
def k0_dev6 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_109 : BitVec 32 := 1#32
  let v144 : BitVec 32 := Scalar.muli v13 c1_i32_109
  let v145 : BitVec 32 := Scalar.addi c0_i32_110 v144
  v145.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_113 : BitVec 32 := 4#32
  let c0_i32_114 : BitVec 32 := 0#32
  let v153 : BitVec 1 := Scalar.cmpi .eq c4_i32_113 c0_i32_114
  let c1_i32_115 : BitVec 32 := 1#32
  let v154 : BitVec 32 := Scalar.select v153 c1_i32_115 c4_i32_113
  let v155 : BitVec 32 := Scalar.remsi v2 v154
  let c0_i32_117 : BitVec 32 := 0#32
  let v157 : BitVec 1 := Scalar.cmpi .slt v155 c0_i32_117
  let c0_i32_118 : BitVec 32 := 0#32
  let v158 : BitVec 1 := Scalar.cmpi .slt v154 c0_i32_118
  let v159 : BitVec 1 := Scalar.xori v157 v158
  let c0_i32_116 : BitVec 32 := 0#32
  let v156 : BitVec 1 := Scalar.cmpi .ne v155 c0_i32_116
  let v160 : BitVec 1 := Scalar.andi v159 v156
  let v161 : BitVec 32 := Scalar.addi v155 v154
  let v162 : BitVec 32 := Scalar.select v160 v161 v155
  let c256_i32_119 : BitVec 32 := 256#32
  let v163 : BitVec 32 := Scalar.muli v162 c256_i32_119
  let c256_i32_130 : BitVec 32 := 256#32
  ![v163.toNat, 256]
def k0_dev7 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_126 : BitVec 32 := 1#32
  let v164 : BitVec 32 := Scalar.muli v24 c1_i32_126
  let v165 : BitVec 32 := Scalar.addi c0_i32_127 v164
  v165.toNat
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_131 : BitVec 32 := 4#32
  let c0_i32_132 : BitVec 32 := 0#32
  let v173 : BitVec 1 := Scalar.cmpi .eq c4_i32_131 c0_i32_132
  let c1_i32_133 : BitVec 32 := 1#32
  let v174 : BitVec 32 := Scalar.select v173 c1_i32_133 c4_i32_131
  let v175 : BitVec 32 := Scalar.remsi v2 v174
  let c0_i32_135 : BitVec 32 := 0#32
  let v177 : BitVec 1 := Scalar.cmpi .slt v175 c0_i32_135
  let c0_i32_136 : BitVec 32 := 0#32
  let v178 : BitVec 1 := Scalar.cmpi .slt v174 c0_i32_136
  let v179 : BitVec 1 := Scalar.xori v177 v178
  let c0_i32_134 : BitVec 32 := 0#32
  let v176 : BitVec 1 := Scalar.cmpi .ne v175 c0_i32_134
  let v180 : BitVec 1 := Scalar.andi v179 v176
  let v181 : BitVec 32 := Scalar.addi v175 v174
  let v182 : BitVec 32 := Scalar.select v180 v181 v175
  let c256_i32_137 : BitVec 32 := 256#32
  let v183 : BitVec 32 := Scalar.muli v182 c256_i32_137
  let c768_i32 : BitVec 32 := 768#32
  ![v183.toNat, 768]
def k0_dev8 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_143 : BitVec 32 := 1#32
  let v184 : BitVec 32 := Scalar.muli v13 c1_i32_143
  let v185 : BitVec 32 := Scalar.addi c0_i32_144 v184
  v185.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_147 : BitVec 32 := 4#32
  let c0_i32_148 : BitVec 32 := 0#32
  let v193 : BitVec 1 := Scalar.cmpi .eq c4_i32_147 c0_i32_148
  let c1_i32_149 : BitVec 32 := 1#32
  let v194 : BitVec 32 := Scalar.select v193 c1_i32_149 c4_i32_147
  let v195 : BitVec 32 := Scalar.remsi v2 v194
  let c0_i32_151 : BitVec 32 := 0#32
  let v197 : BitVec 1 := Scalar.cmpi .slt v195 c0_i32_151
  let c0_i32_152 : BitVec 32 := 0#32
  let v198 : BitVec 1 := Scalar.cmpi .slt v194 c0_i32_152
  let v199 : BitVec 1 := Scalar.xori v197 v198
  let c0_i32_150 : BitVec 32 := 0#32
  let v196 : BitVec 1 := Scalar.cmpi .ne v195 c0_i32_150
  let v200 : BitVec 1 := Scalar.andi v199 v196
  let v201 : BitVec 32 := Scalar.addi v195 v194
  let v202 : BitVec 32 := Scalar.select v200 v201 v195
  let c256_i32_153 : BitVec 32 := 256#32
  let v203 : BitVec 32 := Scalar.muli v202 c256_i32_153
  let c384_i32 : BitVec 32 := 384#32
  ![v203.toNat, 384]
def k0_dev9 (d0 : Dev nD) : Nat :=
  let c0_i32_160 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_159 : BitVec 32 := 1#32
  let v204 : BitVec 32 := Scalar.muli v24 c1_i32_159
  let v205 : BitVec 32 := Scalar.addi c0_i32_160 v204
  v205.toNat
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_163 : BitVec 32 := 4#32
  let c0_i32_164 : BitVec 32 := 0#32
  let v213 : BitVec 1 := Scalar.cmpi .eq c4_i32_163 c0_i32_164
  let c1_i32_165 : BitVec 32 := 1#32
  let v214 : BitVec 32 := Scalar.select v213 c1_i32_165 c4_i32_163
  let v215 : BitVec 32 := Scalar.remsi v2 v214
  let c0_i32_167 : BitVec 32 := 0#32
  let v217 : BitVec 1 := Scalar.cmpi .slt v215 c0_i32_167
  let c0_i32_168 : BitVec 32 := 0#32
  let v218 : BitVec 1 := Scalar.cmpi .slt v214 c0_i32_168
  let v219 : BitVec 1 := Scalar.xori v217 v218
  let c0_i32_166 : BitVec 32 := 0#32
  let v216 : BitVec 1 := Scalar.cmpi .ne v215 c0_i32_166
  let v220 : BitVec 1 := Scalar.andi v219 v216
  let v221 : BitVec 32 := Scalar.addi v215 v214
  let v222 : BitVec 32 := Scalar.select v220 v221 v215
  let c256_i32_169 : BitVec 32 := 256#32
  let v223 : BitVec 32 := Scalar.muli v222 c256_i32_169
  let c896_i32 : BitVec 32 := 896#32
  ![v223.toNat, 896]
def k0_dev10 (d0 : Dev nD) : Nat :=
  let c0_i32_176 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_175 : BitVec 32 := 1#32
  let v224 : BitVec 32 := Scalar.muli v13 c1_i32_175
  let v225 : BitVec 32 := Scalar.addi c0_i32_176 v224
  v225.toNat
def k0_off11 (d0 : Dev nD) (c1_i32_179 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v233 : BitVec 32 := Scalar.addi v2 c1_i32_179
  let c4_i32_180 : BitVec 32 := 4#32
  let c0_i32_181 : BitVec 32 := 0#32
  let v234 : BitVec 1 := Scalar.cmpi .eq c4_i32_180 c0_i32_181
  let c1_i32_182 : BitVec 32 := 1#32
  let v235 : BitVec 32 := Scalar.select v234 c1_i32_182 c4_i32_180
  let v236 : BitVec 32 := Scalar.remsi v233 v235
  let c0_i32_184 : BitVec 32 := 0#32
  let v238 : BitVec 1 := Scalar.cmpi .slt v236 c0_i32_184
  let c0_i32_185 : BitVec 32 := 0#32
  let v239 : BitVec 1 := Scalar.cmpi .slt v235 c0_i32_185
  let v240 : BitVec 1 := Scalar.xori v238 v239
  let c0_i32_183 : BitVec 32 := 0#32
  let v237 : BitVec 1 := Scalar.cmpi .ne v236 c0_i32_183
  let v241 : BitVec 1 := Scalar.andi v240 v237
  let v242 : BitVec 32 := Scalar.addi v236 v235
  let v243 : BitVec 32 := Scalar.select v241 v242 v236
  let c256_i32_186 : BitVec 32 := 256#32
  let v244 : BitVec 32 := Scalar.muli v243 c256_i32_186
  let v245 : Index := Scalar.indexCast v244
  let c0_187 : Index := 0#32
  ![v245.toNat, 0]
def k0_off12 (d0 : Dev nD) (c1_i32_189 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v250 : BitVec 32 := Scalar.addi v2 c1_i32_189
  let c4_i32_190 : BitVec 32 := 4#32
  let c0_i32_191 : BitVec 32 := 0#32
  let v251 : BitVec 1 := Scalar.cmpi .eq c4_i32_190 c0_i32_191
  let c1_i32_192 : BitVec 32 := 1#32
  let v252 : BitVec 32 := Scalar.select v251 c1_i32_192 c4_i32_190
  let v253 : BitVec 32 := Scalar.remsi v250 v252
  let c0_i32_194 : BitVec 32 := 0#32
  let v255 : BitVec 1 := Scalar.cmpi .slt v253 c0_i32_194
  let c0_i32_195 : BitVec 32 := 0#32
  let v256 : BitVec 1 := Scalar.cmpi .slt v252 c0_i32_195
  let v257 : BitVec 1 := Scalar.xori v255 v256
  let c0_i32_193 : BitVec 32 := 0#32
  let v254 : BitVec 1 := Scalar.cmpi .ne v253 c0_i32_193
  let v258 : BitVec 1 := Scalar.andi v257 v254
  let v259 : BitVec 32 := Scalar.addi v253 v252
  let v260 : BitVec 32 := Scalar.select v258 v259 v253
  let c256_i32_196 : BitVec 32 := 256#32
  let v261 : BitVec 32 := Scalar.muli v260 c256_i32_196
  let v262 : Index := Scalar.indexCast v261
  let c0_197 : Index := 0#32
  ![v262.toNat, 0]
def k0_off13 (d0 : Dev nD) (c1_i32_12 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.subi v2 c1_i32_12
  let c4_i32_247 : BitVec 32 := 4#32
  let c0_i32_248 : BitVec 32 := 0#32
  let v339 : BitVec 1 := Scalar.cmpi .eq c4_i32_247 c0_i32_248
  let c1_i32_249 : BitVec 32 := 1#32
  let v340 : BitVec 32 := Scalar.select v339 c1_i32_249 c4_i32_247
  let v341 : BitVec 32 := Scalar.remsi v25 v340
  let c0_i32_251 : BitVec 32 := 0#32
  let v343 : BitVec 1 := Scalar.cmpi .slt v341 c0_i32_251
  let c0_i32_252 : BitVec 32 := 0#32
  let v344 : BitVec 1 := Scalar.cmpi .slt v340 c0_i32_252
  let v345 : BitVec 1 := Scalar.xori v343 v344
  let c0_i32_250 : BitVec 32 := 0#32
  let v342 : BitVec 1 := Scalar.cmpi .ne v341 c0_i32_250
  let v346 : BitVec 1 := Scalar.andi v345 v342
  let v347 : BitVec 32 := Scalar.addi v341 v340
  let v348 : BitVec 32 := Scalar.select v346 v347 v341
  let c256_i32_253 : BitVec 32 := 256#32
  let v349 : BitVec 32 := Scalar.muli v348 c256_i32_253
  let v350 : Index := Scalar.indexCast v349
  let c0_254 : Index := 0#32
  ![v350.toNat, 0]
def k0_dev11 (d0 : Dev nD) : Nat :=
  let c0_i32_271 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_270 : BitVec 32 := 1#32
  let v358 : BitVec 32 := Scalar.muli v24 c1_i32_270
  let v359 : BitVec 32 := Scalar.addi c0_i32_271 v358
  v359.toNat
def k0_off14 (d0 : Dev nD) (c1_i32_16 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v30 : BitVec 32 := Scalar.addi v2 c1_i32_16
  let c4_i32_287 : BitVec 32 := 4#32
  let c0_i32_288 : BitVec 32 := 0#32
  let v375 : BitVec 1 := Scalar.cmpi .eq c4_i32_287 c0_i32_288
  let c1_i32_289 : BitVec 32 := 1#32
  let v376 : BitVec 32 := Scalar.select v375 c1_i32_289 c4_i32_287
  let v377 : BitVec 32 := Scalar.remsi v30 v376
  let c0_i32_291 : BitVec 32 := 0#32
  let v379 : BitVec 1 := Scalar.cmpi .slt v377 c0_i32_291
  let c0_i32_292 : BitVec 32 := 0#32
  let v380 : BitVec 1 := Scalar.cmpi .slt v376 c0_i32_292
  let v381 : BitVec 1 := Scalar.xori v379 v380
  let c0_i32_290 : BitVec 32 := 0#32
  let v378 : BitVec 1 := Scalar.cmpi .ne v377 c0_i32_290
  let v382 : BitVec 1 := Scalar.andi v381 v378
  let v383 : BitVec 32 := Scalar.addi v377 v376
  let v384 : BitVec 32 := Scalar.select v382 v383 v377
  let c256_i32_293 : BitVec 32 := 256#32
  let v385 : BitVec 32 := Scalar.muli v384 c256_i32_293
  let v386 : Index := Scalar.indexCast v385
  let c512 : Index := 512#32
  ![v386.toNat, 512]
def k0_dev12 (d0 : Dev nD) : Nat :=
  let c0_i32_311 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_310 : BitVec 32 := 1#32
  let v394 : BitVec 32 := Scalar.muli v13 c1_i32_310
  let v395 : BitVec 32 := Scalar.addi c0_i32_311 v394
  v395.toNat
def k0_off15 (d0 : Dev nD) (c1_i32_12 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.subi v2 c1_i32_12
  let c4_i32_327 : BitVec 32 := 4#32
  let c0_i32_328 : BitVec 32 := 0#32
  let v411 : BitVec 1 := Scalar.cmpi .eq c4_i32_327 c0_i32_328
  let c1_i32_329 : BitVec 32 := 1#32
  let v412 : BitVec 32 := Scalar.select v411 c1_i32_329 c4_i32_327
  let v413 : BitVec 32 := Scalar.remsi v25 v412
  let c0_i32_331 : BitVec 32 := 0#32
  let v415 : BitVec 1 := Scalar.cmpi .slt v413 c0_i32_331
  let c0_i32_332 : BitVec 32 := 0#32
  let v416 : BitVec 1 := Scalar.cmpi .slt v412 c0_i32_332
  let v417 : BitVec 1 := Scalar.xori v415 v416
  let c0_i32_330 : BitVec 32 := 0#32
  let v414 : BitVec 1 := Scalar.cmpi .ne v413 c0_i32_330
  let v418 : BitVec 1 := Scalar.andi v417 v414
  let v419 : BitVec 32 := Scalar.addi v413 v412
  let v420 : BitVec 32 := Scalar.select v418 v419 v413
  let c256_i32_333 : BitVec 32 := 256#32
  let v421 : BitVec 32 := Scalar.muli v420 c256_i32_333
  let v422 : Index := Scalar.indexCast v421
  let c128 : Index := 128#32
  ![v422.toNat, 128]
def k0_dev13 (d0 : Dev nD) : Nat :=
  let c0_i32_350 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_349 : BitVec 32 := 1#32
  let v430 : BitVec 32 := Scalar.muli v24 c1_i32_349
  let v431 : BitVec 32 := Scalar.addi c0_i32_350 v430
  v431.toNat
def k0_off16 (d0 : Dev nD) (c1_i32_16 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v30 : BitVec 32 := Scalar.addi v2 c1_i32_16
  let c4_i32_366 : BitVec 32 := 4#32
  let c0_i32_367 : BitVec 32 := 0#32
  let v447 : BitVec 1 := Scalar.cmpi .eq c4_i32_366 c0_i32_367
  let c1_i32_368 : BitVec 32 := 1#32
  let v448 : BitVec 32 := Scalar.select v447 c1_i32_368 c4_i32_366
  let v449 : BitVec 32 := Scalar.remsi v30 v448
  let c0_i32_370 : BitVec 32 := 0#32
  let v451 : BitVec 1 := Scalar.cmpi .slt v449 c0_i32_370
  let c0_i32_371 : BitVec 32 := 0#32
  let v452 : BitVec 1 := Scalar.cmpi .slt v448 c0_i32_371
  let v453 : BitVec 1 := Scalar.xori v451 v452
  let c0_i32_369 : BitVec 32 := 0#32
  let v450 : BitVec 1 := Scalar.cmpi .ne v449 c0_i32_369
  let v454 : BitVec 1 := Scalar.andi v453 v450
  let v455 : BitVec 32 := Scalar.addi v449 v448
  let v456 : BitVec 32 := Scalar.select v454 v455 v449
  let c256_i32_372 : BitVec 32 := 256#32
  let v457 : BitVec 32 := Scalar.muli v456 c256_i32_372
  let v458 : Index := Scalar.indexCast v457
  let c640 : Index := 640#32
  ![v458.toNat, 640]
def k0_dev14 (d0 : Dev nD) : Nat :=
  let c0_i32_389 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_388 : BitVec 32 := 1#32
  let v466 : BitVec 32 := Scalar.muli v13 c1_i32_388
  let v467 : BitVec 32 := Scalar.addi c0_i32_389 v466
  v467.toNat
def k0_off17 (d0 : Dev nD) (c1_i32_12 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.subi v2 c1_i32_12
  let c4_i32_405 : BitVec 32 := 4#32
  let c0_i32_406 : BitVec 32 := 0#32
  let v483 : BitVec 1 := Scalar.cmpi .eq c4_i32_405 c0_i32_406
  let c1_i32_407 : BitVec 32 := 1#32
  let v484 : BitVec 32 := Scalar.select v483 c1_i32_407 c4_i32_405
  let v485 : BitVec 32 := Scalar.remsi v25 v484
  let c0_i32_409 : BitVec 32 := 0#32
  let v487 : BitVec 1 := Scalar.cmpi .slt v485 c0_i32_409
  let c0_i32_410 : BitVec 32 := 0#32
  let v488 : BitVec 1 := Scalar.cmpi .slt v484 c0_i32_410
  let v489 : BitVec 1 := Scalar.xori v487 v488
  let c0_i32_408 : BitVec 32 := 0#32
  let v486 : BitVec 1 := Scalar.cmpi .ne v485 c0_i32_408
  let v490 : BitVec 1 := Scalar.andi v489 v486
  let v491 : BitVec 32 := Scalar.addi v485 v484
  let v492 : BitVec 32 := Scalar.select v490 v491 v485
  let c256_i32_411 : BitVec 32 := 256#32
  let v493 : BitVec 32 := Scalar.muli v492 c256_i32_411
  let v494 : Index := Scalar.indexCast v493
  let c256 : Index := 256#32
  ![v494.toNat, 256]
def k0_dev15 (d0 : Dev nD) : Nat :=
  let c0_i32_428 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_427 : BitVec 32 := 1#32
  let v502 : BitVec 32 := Scalar.muli v24 c1_i32_427
  let v503 : BitVec 32 := Scalar.addi c0_i32_428 v502
  v503.toNat
def k0_off18 (d0 : Dev nD) (c1_i32_16 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v30 : BitVec 32 := Scalar.addi v2 c1_i32_16
  let c4_i32_444 : BitVec 32 := 4#32
  let c0_i32_445 : BitVec 32 := 0#32
  let v519 : BitVec 1 := Scalar.cmpi .eq c4_i32_444 c0_i32_445
  let c1_i32_446 : BitVec 32 := 1#32
  let v520 : BitVec 32 := Scalar.select v519 c1_i32_446 c4_i32_444
  let v521 : BitVec 32 := Scalar.remsi v30 v520
  let c0_i32_448 : BitVec 32 := 0#32
  let v523 : BitVec 1 := Scalar.cmpi .slt v521 c0_i32_448
  let c0_i32_449 : BitVec 32 := 0#32
  let v524 : BitVec 1 := Scalar.cmpi .slt v520 c0_i32_449
  let v525 : BitVec 1 := Scalar.xori v523 v524
  let c0_i32_447 : BitVec 32 := 0#32
  let v522 : BitVec 1 := Scalar.cmpi .ne v521 c0_i32_447
  let v526 : BitVec 1 := Scalar.andi v525 v522
  let v527 : BitVec 32 := Scalar.addi v521 v520
  let v528 : BitVec 32 := Scalar.select v526 v527 v521
  let c256_i32_450 : BitVec 32 := 256#32
  let v529 : BitVec 32 := Scalar.muli v528 c256_i32_450
  let v530 : Index := Scalar.indexCast v529
  let c768 : Index := 768#32
  ![v530.toNat, 768]
def k0_dev16 (d0 : Dev nD) : Nat :=
  let c0_i32_467 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_466 : BitVec 32 := 1#32
  let v538 : BitVec 32 := Scalar.muli v13 c1_i32_466
  let v539 : BitVec 32 := Scalar.addi c0_i32_467 v538
  v539.toNat
def k0_off19 (d0 : Dev nD) (c1_i32_12 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.subi v2 c1_i32_12
  let c4_i32_483 : BitVec 32 := 4#32
  let c0_i32_484 : BitVec 32 := 0#32
  let v555 : BitVec 1 := Scalar.cmpi .eq c4_i32_483 c0_i32_484
  let c1_i32_485 : BitVec 32 := 1#32
  let v556 : BitVec 32 := Scalar.select v555 c1_i32_485 c4_i32_483
  let v557 : BitVec 32 := Scalar.remsi v25 v556
  let c0_i32_487 : BitVec 32 := 0#32
  let v559 : BitVec 1 := Scalar.cmpi .slt v557 c0_i32_487
  let c0_i32_488 : BitVec 32 := 0#32
  let v560 : BitVec 1 := Scalar.cmpi .slt v556 c0_i32_488
  let v561 : BitVec 1 := Scalar.xori v559 v560
  let c0_i32_486 : BitVec 32 := 0#32
  let v558 : BitVec 1 := Scalar.cmpi .ne v557 c0_i32_486
  let v562 : BitVec 1 := Scalar.andi v561 v558
  let v563 : BitVec 32 := Scalar.addi v557 v556
  let v564 : BitVec 32 := Scalar.select v562 v563 v557
  let c256_i32_489 : BitVec 32 := 256#32
  let v565 : BitVec 32 := Scalar.muli v564 c256_i32_489
  let v566 : Index := Scalar.indexCast v565
  let c384 : Index := 384#32
  ![v566.toNat, 384]
def k0_dev17 (d0 : Dev nD) : Nat :=
  let c0_i32_506 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_505 : BitVec 32 := 1#32
  let v574 : BitVec 32 := Scalar.muli v24 c1_i32_505
  let v575 : BitVec 32 := Scalar.addi c0_i32_506 v574
  v575.toNat
def k0_off20 (d0 : Dev nD) (c1_i32_16 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v30 : BitVec 32 := Scalar.addi v2 c1_i32_16
  let c4_i32_522 : BitVec 32 := 4#32
  let c0_i32_523 : BitVec 32 := 0#32
  let v591 : BitVec 1 := Scalar.cmpi .eq c4_i32_522 c0_i32_523
  let c1_i32_524 : BitVec 32 := 1#32
  let v592 : BitVec 32 := Scalar.select v591 c1_i32_524 c4_i32_522
  let v593 : BitVec 32 := Scalar.remsi v30 v592
  let c0_i32_526 : BitVec 32 := 0#32
  let v595 : BitVec 1 := Scalar.cmpi .slt v593 c0_i32_526
  let c0_i32_527 : BitVec 32 := 0#32
  let v596 : BitVec 1 := Scalar.cmpi .slt v592 c0_i32_527
  let v597 : BitVec 1 := Scalar.xori v595 v596
  let c0_i32_525 : BitVec 32 := 0#32
  let v594 : BitVec 1 := Scalar.cmpi .ne v593 c0_i32_525
  let v598 : BitVec 1 := Scalar.andi v597 v594
  let v599 : BitVec 32 := Scalar.addi v593 v592
  let v600 : BitVec 32 := Scalar.select v598 v599 v593
  let c256_i32_528 : BitVec 32 := 256#32
  let v601 : BitVec 32 := Scalar.muli v600 c256_i32_528
  let v602 : Index := Scalar.indexCast v601
  let c896 : Index := 896#32
  ![v602.toNat, 896]
def k0_dev18 (d0 : Dev nD) : Nat :=
  let c0_i32_545 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_544 : BitVec 32 := 1#32
  let v610 : BitVec 32 := Scalar.muli v13 c1_i32_544
  let v611 : BitVec 32 := Scalar.addi c0_i32_545 v610
  v611.toNat
def k0_dev19 (d0 : Dev nD) : Nat :=
  let c0_i32_599 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_598 : BitVec 32 := 1#32
  let v652 : BitVec 32 := Scalar.muli v24 c1_i32_598
  let v653 : BitVec 32 := Scalar.addi c0_i32_599 v652
  v653.toNat
def k0_dev20 (d0 : Dev nD) : Nat :=
  let c0_i32_653 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_652 : BitVec 32 := 1#32
  let v694 : BitVec 32 := Scalar.muli v13 c1_i32_652
  let v695 : BitVec 32 := Scalar.addi c0_i32_653 v694
  v695.toNat
def k0_dev21 (d0 : Dev nD) : Nat :=
  let c0_i32_707 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_706 : BitVec 32 := 1#32
  let v736 : BitVec 32 := Scalar.muli v24 c1_i32_706
  let v737 : BitVec 32 := Scalar.addi c0_i32_707 v736
  v737.toNat
def k0_dev22 (d0 : Dev nD) : Nat :=
  let c0_i32_761 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_760 : BitVec 32 := 1#32
  let v778 : BitVec 32 := Scalar.muli v13 c1_i32_760
  let v779 : BitVec 32 := Scalar.addi c0_i32_761 v778
  v779.toNat
def k0_dev23 (d0 : Dev nD) : Nat :=
  let c0_i32_815 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_814 : BitVec 32 := 1#32
  let v820 : BitVec 32 := Scalar.muli v24 c1_i32_814
  let v821 : BitVec 32 := Scalar.addi c0_i32_815 v820
  v821.toNat
def k0_dev24 (d0 : Dev nD) : Nat :=
  let c0_i32_869 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_868 : BitVec 32 := 1#32
  let v862 : BitVec 32 := Scalar.muli v13 c1_i32_868
  let v863 : BitVec 32 := Scalar.addi c0_i32_869 v862
  v863.toNat
def k0_dev25 (d0 : Dev nD) : Nat :=
  let c0_i32_923 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_922 : BitVec 32 := 1#32
  let v904 : BitVec 32 := Scalar.muli v24 c1_i32_922
  let v905 : BitVec 32 := Scalar.addi c0_i32_923 v904
  v905.toNat
def k0_dev26 (d0 : Dev nD) : Nat :=
  let c0_i32_977 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_976 : BitVec 32 := 1#32
  let v946 : BitVec 32 := Scalar.muli v13 c1_i32_976
  let v947 : BitVec 32 := Scalar.addi c0_i32_977 v946
  v947.toNat
def k0_dev27 (d0 : Dev nD) : Nat :=
  let c0_i32_1034 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_1033 : BitVec 32 := 1#32
  let v989 : BitVec 32 := Scalar.muli v24 c1_i32_1033
  let v990 : BitVec 32 := Scalar.addi c0_i32_1034 v989
  v990.toNat
def k0_dev28 (d0 : Dev nD) : Nat :=
  let c0_i32_1091 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_1090 : BitVec 32 := 1#32
  let v1032 : BitVec 32 := Scalar.muli v13 c1_i32_1090
  let v1033 : BitVec 32 := Scalar.addi c0_i32_1091 v1032
  v1033.toNat
def k0_dev29 (d0 : Dev nD) : Nat :=
  let c0_i32_1148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_1147 : BitVec 32 := 1#32
  let v1075 : BitVec 32 := Scalar.muli v24 c1_i32_1147
  let v1076 : BitVec 32 := Scalar.addi c0_i32_1148 v1075
  v1076.toNat
def k0_dev30 (d0 : Dev nD) : Nat :=
  let c0_i32_1205 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_1204 : BitVec 32 := 1#32
  let v1118 : BitVec 32 := Scalar.muli v13 c1_i32_1204
  let v1119 : BitVec 32 := Scalar.addi c0_i32_1205 v1118
  v1119.toNat
def k0_dev31 (d0 : Dev nD) : Nat :=
  let c0_i32_1262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_1261 : BitVec 32 := 1#32
  let v1161 : BitVec 32 := Scalar.muli v24 c1_i32_1261
  let v1162 : BitVec 32 := Scalar.addi c0_i32_1262 v1161
  v1162.toNat
def k0_dev32 (d0 : Dev nD) : Nat :=
  let c0_i32_1319 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_1318 : BitVec 32 := 1#32
  let v1204 : BitVec 32 := Scalar.muli v13 c1_i32_1318
  let v1205 : BitVec 32 := Scalar.addi c0_i32_1319 v1204
  v1205.toNat
def k0_dev33 (d0 : Dev nD) : Nat :=
  let c0_i32_1376 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_1375 : BitVec 32 := 1#32
  let v1247 : BitVec 32 := Scalar.muli v24 c1_i32_1375
  let v1248 : BitVec 32 := Scalar.addi c0_i32_1376 v1247
  v1248.toNat
def k0_dev34 (d0 : Dev nD) : Nat :=
  let c0_i32_1433 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_1432 : BitVec 32 := 1#32
  let v1290 : BitVec 32 := Scalar.muli v13 c1_i32_1432
  let v1291 : BitVec 32 := Scalar.addi c0_i32_1433 v1290
  v1291.toNat
def k0_dev35 (d0 : Dev nD) : Nat :=
  let c0_i32_1525 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_1524 : BitVec 32 := 1#32
  let v1420 : BitVec 32 := Scalar.muli v24 c1_i32_1524
  let v1421 : BitVec 32 := Scalar.addi c0_i32_1525 v1420
  v1421.toNat
def k0_dev36 (d0 : Dev nD) : Nat :=
  let c0_i32_1553 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_1552 : BitVec 32 := 1#32
  let v1438 : BitVec 32 := Scalar.muli v13 c1_i32_1552
  let v1439 : BitVec 32 := Scalar.addi c0_i32_1553 v1438
  v1439.toNat
def k0_dev37 (d0 : Dev nD) : Nat :=
  let c0_i32_1581 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_1580 : BitVec 32 := 1#32
  let v1456 : BitVec 32 := Scalar.muli v24 c1_i32_1580
  let v1457 : BitVec 32 := Scalar.addi c0_i32_1581 v1456
  v1457.toNat
def k0_dev38 (d0 : Dev nD) : Nat :=
  let c0_i32_1609 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_1608 : BitVec 32 := 1#32
  let v1474 : BitVec 32 := Scalar.muli v13 c1_i32_1608
  let v1475 : BitVec 32 := Scalar.addi c0_i32_1609 v1474
  v1475.toNat
def k0_dev39 (d0 : Dev nD) : Nat :=
  let c0_i32_1637 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_1636 : BitVec 32 := 1#32
  let v1492 : BitVec 32 := Scalar.muli v24 c1_i32_1636
  let v1493 : BitVec 32 := Scalar.addi c0_i32_1637 v1492
  v1493.toNat
def k0_dev40 (d0 : Dev nD) : Nat :=
  let c0_i32_1665 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_1664 : BitVec 32 := 1#32
  let v1510 : BitVec 32 := Scalar.muli v13 c1_i32_1664
  let v1511 : BitVec 32 := Scalar.addi c0_i32_1665 v1510
  v1511.toNat
def k0_dev41 (d0 : Dev nD) : Nat :=
  let c0_i32_1693 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_1692 : BitVec 32 := 1#32
  let v1528 : BitVec 32 := Scalar.muli v24 c1_i32_1692
  let v1529 : BitVec 32 := Scalar.addi c0_i32_1693 v1528
  v1529.toNat
def k0_dev42 (d0 : Dev nD) : Nat :=
  let c0_i32_1721 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_1720 : BitVec 32 := 1#32
  let v1546 : BitVec 32 := Scalar.muli v13 c1_i32_1720
  let v1547 : BitVec 32 := Scalar.addi c0_i32_1721 v1546
  v1547.toNat
def k0_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1730 : BitVec 32 := 4#32
  let c0_i32_1731 : BitVec 32 := 0#32
  let v1559 : BitVec 1 := Scalar.cmpi .eq c4_i32_1730 c0_i32_1731
  let c1_i32_1732 : BitVec 32 := 1#32
  let v1560 : BitVec 32 := Scalar.select v1559 c1_i32_1732 c4_i32_1730
  let v1561 : BitVec 32 := Scalar.remsi v2 v1560
  let c0_i32_1734 : BitVec 32 := 0#32
  let v1563 : BitVec 1 := Scalar.cmpi .slt v1561 c0_i32_1734
  let c0_i32_1735 : BitVec 32 := 0#32
  let v1564 : BitVec 1 := Scalar.cmpi .slt v1560 c0_i32_1735
  let v1565 : BitVec 1 := Scalar.xori v1563 v1564
  let c0_i32_1733 : BitVec 32 := 0#32
  let v1562 : BitVec 1 := Scalar.cmpi .ne v1561 c0_i32_1733
  let v1566 : BitVec 1 := Scalar.andi v1565 v1562
  let v1567 : BitVec 32 := Scalar.addi v1561 v1560
  let v1568 : BitVec 32 := Scalar.select v1566 v1567 v1561
  let c256_i32_1736 : BitVec 32 := 256#32
  let v1569 : BitVec 32 := Scalar.muli v1568 c256_i32_1736
  let v1570 : Index := Scalar.indexCast v1569
  let c0_1737 : Index := 0#32
  ![v1570.toNat, 0]
def k0_off22 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1742 : BitVec 32 := 4#32
  let c0_i32_1743 : BitVec 32 := 0#32
  let v1575 : BitVec 1 := Scalar.cmpi .eq c4_i32_1742 c0_i32_1743
  let c1_i32_1744 : BitVec 32 := 1#32
  let v1576 : BitVec 32 := Scalar.select v1575 c1_i32_1744 c4_i32_1742
  let v1577 : BitVec 32 := Scalar.remsi v2 v1576
  let c0_i32_1746 : BitVec 32 := 0#32
  let v1579 : BitVec 1 := Scalar.cmpi .slt v1577 c0_i32_1746
  let c0_i32_1747 : BitVec 32 := 0#32
  let v1580 : BitVec 1 := Scalar.cmpi .slt v1576 c0_i32_1747
  let v1581 : BitVec 1 := Scalar.xori v1579 v1580
  let c0_i32_1745 : BitVec 32 := 0#32
  let v1578 : BitVec 1 := Scalar.cmpi .ne v1577 c0_i32_1745
  let v1582 : BitVec 1 := Scalar.andi v1581 v1578
  let v1583 : BitVec 32 := Scalar.addi v1577 v1576
  let v1584 : BitVec 32 := Scalar.select v1582 v1583 v1577
  let c256_i32_1748 : BitVec 32 := 256#32
  let v1585 : BitVec 32 := Scalar.muli v1584 c256_i32_1748
  let v1586 : Index := Scalar.indexCast v1585
  let c512_1749 : Index := 512#32
  ![v1586.toNat, 512]
def k0_off23 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1754 : BitVec 32 := 4#32
  let c0_i32_1755 : BitVec 32 := 0#32
  let v1591 : BitVec 1 := Scalar.cmpi .eq c4_i32_1754 c0_i32_1755
  let c1_i32_1756 : BitVec 32 := 1#32
  let v1592 : BitVec 32 := Scalar.select v1591 c1_i32_1756 c4_i32_1754
  let v1593 : BitVec 32 := Scalar.remsi v2 v1592
  let c0_i32_1758 : BitVec 32 := 0#32
  let v1595 : BitVec 1 := Scalar.cmpi .slt v1593 c0_i32_1758
  let c0_i32_1759 : BitVec 32 := 0#32
  let v1596 : BitVec 1 := Scalar.cmpi .slt v1592 c0_i32_1759
  let v1597 : BitVec 1 := Scalar.xori v1595 v1596
  let c0_i32_1757 : BitVec 32 := 0#32
  let v1594 : BitVec 1 := Scalar.cmpi .ne v1593 c0_i32_1757
  let v1598 : BitVec 1 := Scalar.andi v1597 v1594
  let v1599 : BitVec 32 := Scalar.addi v1593 v1592
  let v1600 : BitVec 32 := Scalar.select v1598 v1599 v1593
  let c256_i32_1760 : BitVec 32 := 256#32
  let v1601 : BitVec 32 := Scalar.muli v1600 c256_i32_1760
  let v1602 : Index := Scalar.indexCast v1601
  let c128_1761 : Index := 128#32
  ![v1602.toNat, 128]
def k0_off24 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1766 : BitVec 32 := 4#32
  let c0_i32_1767 : BitVec 32 := 0#32
  let v1607 : BitVec 1 := Scalar.cmpi .eq c4_i32_1766 c0_i32_1767
  let c1_i32_1768 : BitVec 32 := 1#32
  let v1608 : BitVec 32 := Scalar.select v1607 c1_i32_1768 c4_i32_1766
  let v1609 : BitVec 32 := Scalar.remsi v2 v1608
  let c0_i32_1770 : BitVec 32 := 0#32
  let v1611 : BitVec 1 := Scalar.cmpi .slt v1609 c0_i32_1770
  let c0_i32_1771 : BitVec 32 := 0#32
  let v1612 : BitVec 1 := Scalar.cmpi .slt v1608 c0_i32_1771
  let v1613 : BitVec 1 := Scalar.xori v1611 v1612
  let c0_i32_1769 : BitVec 32 := 0#32
  let v1610 : BitVec 1 := Scalar.cmpi .ne v1609 c0_i32_1769
  let v1614 : BitVec 1 := Scalar.andi v1613 v1610
  let v1615 : BitVec 32 := Scalar.addi v1609 v1608
  let v1616 : BitVec 32 := Scalar.select v1614 v1615 v1609
  let c256_i32_1772 : BitVec 32 := 256#32
  let v1617 : BitVec 32 := Scalar.muli v1616 c256_i32_1772
  let v1618 : Index := Scalar.indexCast v1617
  let c640_1773 : Index := 640#32
  ![v1618.toNat, 640]
def k0_off25 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1778 : BitVec 32 := 4#32
  let c0_i32_1779 : BitVec 32 := 0#32
  let v1623 : BitVec 1 := Scalar.cmpi .eq c4_i32_1778 c0_i32_1779
  let c1_i32_1780 : BitVec 32 := 1#32
  let v1624 : BitVec 32 := Scalar.select v1623 c1_i32_1780 c4_i32_1778
  let v1625 : BitVec 32 := Scalar.remsi v2 v1624
  let c0_i32_1782 : BitVec 32 := 0#32
  let v1627 : BitVec 1 := Scalar.cmpi .slt v1625 c0_i32_1782
  let c0_i32_1783 : BitVec 32 := 0#32
  let v1628 : BitVec 1 := Scalar.cmpi .slt v1624 c0_i32_1783
  let v1629 : BitVec 1 := Scalar.xori v1627 v1628
  let c0_i32_1781 : BitVec 32 := 0#32
  let v1626 : BitVec 1 := Scalar.cmpi .ne v1625 c0_i32_1781
  let v1630 : BitVec 1 := Scalar.andi v1629 v1626
  let v1631 : BitVec 32 := Scalar.addi v1625 v1624
  let v1632 : BitVec 32 := Scalar.select v1630 v1631 v1625
  let c256_i32_1784 : BitVec 32 := 256#32
  let v1633 : BitVec 32 := Scalar.muli v1632 c256_i32_1784
  let v1634 : Index := Scalar.indexCast v1633
  let c256_1785 : Index := 256#32
  ![v1634.toNat, 256]
def k0_off26 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1790 : BitVec 32 := 4#32
  let c0_i32_1791 : BitVec 32 := 0#32
  let v1639 : BitVec 1 := Scalar.cmpi .eq c4_i32_1790 c0_i32_1791
  let c1_i32_1792 : BitVec 32 := 1#32
  let v1640 : BitVec 32 := Scalar.select v1639 c1_i32_1792 c4_i32_1790
  let v1641 : BitVec 32 := Scalar.remsi v2 v1640
  let c0_i32_1794 : BitVec 32 := 0#32
  let v1643 : BitVec 1 := Scalar.cmpi .slt v1641 c0_i32_1794
  let c0_i32_1795 : BitVec 32 := 0#32
  let v1644 : BitVec 1 := Scalar.cmpi .slt v1640 c0_i32_1795
  let v1645 : BitVec 1 := Scalar.xori v1643 v1644
  let c0_i32_1793 : BitVec 32 := 0#32
  let v1642 : BitVec 1 := Scalar.cmpi .ne v1641 c0_i32_1793
  let v1646 : BitVec 1 := Scalar.andi v1645 v1642
  let v1647 : BitVec 32 := Scalar.addi v1641 v1640
  let v1648 : BitVec 32 := Scalar.select v1646 v1647 v1641
  let c256_i32_1796 : BitVec 32 := 256#32
  let v1649 : BitVec 32 := Scalar.muli v1648 c256_i32_1796
  let v1650 : Index := Scalar.indexCast v1649
  let c768_1797 : Index := 768#32
  ![v1650.toNat, 768]
def k0_off27 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1802 : BitVec 32 := 4#32
  let c0_i32_1803 : BitVec 32 := 0#32
  let v1655 : BitVec 1 := Scalar.cmpi .eq c4_i32_1802 c0_i32_1803
  let c1_i32_1804 : BitVec 32 := 1#32
  let v1656 : BitVec 32 := Scalar.select v1655 c1_i32_1804 c4_i32_1802
  let v1657 : BitVec 32 := Scalar.remsi v2 v1656
  let c0_i32_1806 : BitVec 32 := 0#32
  let v1659 : BitVec 1 := Scalar.cmpi .slt v1657 c0_i32_1806
  let c0_i32_1807 : BitVec 32 := 0#32
  let v1660 : BitVec 1 := Scalar.cmpi .slt v1656 c0_i32_1807
  let v1661 : BitVec 1 := Scalar.xori v1659 v1660
  let c0_i32_1805 : BitVec 32 := 0#32
  let v1658 : BitVec 1 := Scalar.cmpi .ne v1657 c0_i32_1805
  let v1662 : BitVec 1 := Scalar.andi v1661 v1658
  let v1663 : BitVec 32 := Scalar.addi v1657 v1656
  let v1664 : BitVec 32 := Scalar.select v1662 v1663 v1657
  let c256_i32_1808 : BitVec 32 := 256#32
  let v1665 : BitVec 32 := Scalar.muli v1664 c256_i32_1808
  let v1666 : Index := Scalar.indexCast v1665
  let c384_1809 : Index := 384#32
  ![v1666.toNat, 384]
def k0_off28 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1814 : BitVec 32 := 4#32
  let c0_i32_1815 : BitVec 32 := 0#32
  let v1671 : BitVec 1 := Scalar.cmpi .eq c4_i32_1814 c0_i32_1815
  let c1_i32_1816 : BitVec 32 := 1#32
  let v1672 : BitVec 32 := Scalar.select v1671 c1_i32_1816 c4_i32_1814
  let v1673 : BitVec 32 := Scalar.remsi v2 v1672
  let c0_i32_1818 : BitVec 32 := 0#32
  let v1675 : BitVec 1 := Scalar.cmpi .slt v1673 c0_i32_1818
  let c0_i32_1819 : BitVec 32 := 0#32
  let v1676 : BitVec 1 := Scalar.cmpi .slt v1672 c0_i32_1819
  let v1677 : BitVec 1 := Scalar.xori v1675 v1676
  let c0_i32_1817 : BitVec 32 := 0#32
  let v1674 : BitVec 1 := Scalar.cmpi .ne v1673 c0_i32_1817
  let v1678 : BitVec 1 := Scalar.andi v1677 v1674
  let v1679 : BitVec 32 := Scalar.addi v1673 v1672
  let v1680 : BitVec 32 := Scalar.select v1678 v1679 v1673
  let c256_i32_1820 : BitVec 32 := 256#32
  let v1681 : BitVec 32 := Scalar.muli v1680 c256_i32_1820
  let v1682 : Index := Scalar.indexCast v1681
  let c896_1821 : Index := 896#32
  ![v1682.toNat, 896]
def k0_dev43 (d0 : Dev nD) : Nat :=
  let c0_i32_1845 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_1844 : BitVec 32 := 1#32
  let v1692 : BitVec 32 := Scalar.muli v24 c1_i32_1844
  let v1693 : BitVec 32 := Scalar.addi c0_i32_1845 v1692
  v1693.toNat
def k0_dev44 (d0 : Dev nD) : Nat :=
  let c0_i32_1873 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_1872 : BitVec 32 := 1#32
  let v1710 : BitVec 32 := Scalar.muli v13 c1_i32_1872
  let v1711 : BitVec 32 := Scalar.addi c0_i32_1873 v1710
  v1711.toNat
def k0_dev45 (d0 : Dev nD) : Nat :=
  let c0_i32_1901 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_1900 : BitVec 32 := 1#32
  let v1728 : BitVec 32 := Scalar.muli v24 c1_i32_1900
  let v1729 : BitVec 32 := Scalar.addi c0_i32_1901 v1728
  v1729.toNat
def k0_dev46 (d0 : Dev nD) : Nat :=
  let c0_i32_1929 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_1928 : BitVec 32 := 1#32
  let v1746 : BitVec 32 := Scalar.muli v13 c1_i32_1928
  let v1747 : BitVec 32 := Scalar.addi c0_i32_1929 v1746
  v1747.toNat
def k0_dev47 (d0 : Dev nD) : Nat :=
  let c0_i32_1957 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_1956 : BitVec 32 := 1#32
  let v1764 : BitVec 32 := Scalar.muli v24 c1_i32_1956
  let v1765 : BitVec 32 := Scalar.addi c0_i32_1957 v1764
  v1765.toNat
def k0_dev48 (d0 : Dev nD) : Nat :=
  let c0_i32_1985 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_1984 : BitVec 32 := 1#32
  let v1782 : BitVec 32 := Scalar.muli v13 c1_i32_1984
  let v1783 : BitVec 32 := Scalar.addi c0_i32_1985 v1782
  v1783.toNat
def k0_dev49 (d0 : Dev nD) : Nat :=
  let c0_i32_2013 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_2012 : BitVec 32 := 1#32
  let v1800 : BitVec 32 := Scalar.muli v24 c1_i32_2012
  let v1801 : BitVec 32 := Scalar.addi c0_i32_2013 v1800
  v1801.toNat
def k0_dev50 (d0 : Dev nD) : Nat :=
  let c0_i32_2041 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_2040 : BitVec 32 := 1#32
  let v1818 : BitVec 32 := Scalar.muli v13 c1_i32_2040
  let v1819 : BitVec 32 := Scalar.addi c0_i32_2041 v1818
  v1819.toNat
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Prog.lean ====
/- The kernel body as loops over the eight rings.

   The printed body lists every operation one by one; here the same operations are written once per
   step and repeated over a list of rings, with the printed offsets and devices collected in tables,
   and `body_eq` states that the two are one program. -/
module

public import proofs.«01_k».proof.Proof.Gen.KernelIdeal.Skeleton
public import proofs.«01_k».proof.Proof.Gen.KernelIdeal.Frame

@[expose] public section

noncomputable section

namespace Cert.KernelIdeal.Own

open Idealize.ShloMosaic Idealize.ShloMosaic.TcCoe Idealize.SL.Sem
open Cert.KernelIdeal.Gen

variable {F : FTy → Type} [FloatOps F]

/-- The programs of the kernel's core that return an `α`. -/
abbrev PG (F : FTy → Type) [FloatOps F] (α : Type) : Type 1 := Prog (TpuEff nD τ sig (Elt F) Λ₀ .tc) α

/-! ## The buffers -/

/-- The staged block of `x`, the staged block of `w`, the staged result, the partial products, the two
    slots each ring sends its sums from, and the six slots each ring receives in. -/
abbrev aX : Memref sig .tc .vmem S1024x256 .bf16 := Memref.whole cc0_stg0_0
abbrev aW : Memref sig .tc .vmem S256x1024 .bf16 := Memref.whole cc0_stg1_0
abbrev aO : Memref sig .tc .vmem S1024x1024 .f32 := Memref.whole cc0_stg2_0
abbrev aP : Memref sig .tc .vmem S1024x1024 .bf16 := Memref.whole cc0_scratch0
abbrev aS : Memref sig .tc .vmem S8x2x256x128 .bf16 := Memref.whole cc0_scratch1
abbrev aR : Memref sig .tc .vmem S8x6x256x128 .bf16 := Memref.whole cc0_scratch2

theorem inbR : ∀ (r : Fin 8) (h : Fin 6), ∀ a, (![r.val, h.val, 0, 0] : Fin 4 → ℕ) a + S1x1x256x128.size a ≤ S8x6x256x128.size a := by
  decide +kernel
theorem inbS : ∀ (r : Fin 8) (k : Fin 2), ∀ a, (![r.val, k.val, 0, 0] : Fin 4 → ℕ) a + S1x1x256x128.size a ≤ S8x2x256x128.size a := by
  decide +kernel
theorem inbQ : ∀ (r : Fin 8) (h : Fin 6), ∀ a, (![r.val, h.val] : Fin 2 → ℕ) a + S1x1.size a ≤ S8x6.size a := by
  decide +kernel

/-- The rectangle of receive slot `h` of ring `r`, and of send slot `k` of ring `r`. -/
abbrev rR (r : Fin 8) (h : Fin 6) : Rect S8x6x256x128 := Rect.unit (s := S8x6x256x128) ![r.val, h.val, 0, 0] S1x1x256x128.size (inbR r h)
abbrev rS (r : Fin 8) (k : Fin 2) : Rect S8x2x256x128 := Rect.unit (s := S8x2x256x128) ![r.val, k.val, 0, 0] S1x1x256x128.size (inbS r k)

theorem wordsR : ∀ (r : Fin 8) (h : Fin 6), (rR r h).WholeWords (EltTy.packing .bf16) := by decide +kernel
theorem wordsS : ∀ (r : Fin 8) (k : Fin 2), (rS r k).WholeWords (EltTy.packing .bf16) := by decide +kernel
theorem packedS : ∀ (r : Fin 8) (k : Fin 2), (rS r k).PackedRows (EltTy.packing .bf16) := by decide +kernel

/-- Receive slot `h` and send slot `k` of ring `r`, as 256 × 128 blocks. -/
abbrev slR (r : Fin 8) (h : Fin 6) : Memref sig .tc .vmem S256x128 .bf16 :=
  (aR.slice (rR r h) (fun _ => rfl)).squeeze S256x128 squeezes_S1x1x256x128_S256x128
abbrev slS (r : Fin 8) (k : Fin 2) : Memref sig .tc .vmem S256x128 .bf16 :=
  (aS.slice (rS r k) (fun _ => rfl)).squeeze S256x128 squeezes_S1x1x256x128_S256x128

theorem exR (r : Fin 8) (h : Fin 6) : (slR r h).view.WordExact :=
  ((Memref.isWhole_whole cc0_scratch2).wordExact_slice rfl _ (wordsR r h)).reshape _ _
theorem exS (r : Fin 8) (k : Fin 2) : (slS r k).view.WordExact :=
  ((Memref.isWhole_whole cc0_scratch1).wordExact_slice rfl _ (wordsS r k)).reshape _ _

/-- The semaphores of hop `h` of ring `r`: the one its transfer credits on the sender, and the one it
    credits on the receiver. -/
abbrev qS (r : Fin 8) (h : Fin 6) : DmaSem sig :=
  (((cc0_scratch3 : DmaSems sig S8x6).slice (Rect.unit (s := S8x6) ![r.val, h.val] S1x1.size (inbQ r h))).squeeze S_ squeezes_S1x1_S_).sem
abbrev qV (r : Fin 8) (h : Fin 6) : DmaSem sig :=
  (((cc0_scratch4 : DmaSems sig S8x6).slice (Rect.unit (s := S8x6) ![r.val, h.val] S1x1.size (inbQ r h))).squeeze S_ squeezes_S1x1_S_).sem
/-- The barrier semaphore. -/
abbrev qB : Sem sig := (SemArray.scalar (sig.barrier 0 rfl) : Sems sig S_).sem

/-! ## The printed offsets and devices -/

/-- Where ring `r`'s piece of the device's own rows starts in the partial products. -/
def offP : Fin 8 → Dev nD → Fin 2 → ℕ
  | 0 => k0_off3 | 1 => k0_off4 | 2 => k0_off5 | 3 => k0_off6 | 4 => k0_off7 | 5 => k0_off8 | 6 => k0_off9 | 7 => k0_off10
/-- Where ring `r`'s piece of the rows `b` places back along the ring starts. -/
def offA : Fin 8 → Dev nD → BitVec 32 → Fin 2 → ℕ
  | 0 => k0_off13 | 1 => k0_off14 | 2 => k0_off15 | 3 => k0_off16 | 4 => k0_off17 | 5 => k0_off18 | 6 => k0_off19 | 7 => k0_off20
/-- Where ring `r`'s piece of the device's own rows starts in the result. -/
def offO : Fin 8 → Dev nD → Fin 2 → ℕ
  | 0 => k0_off21 | 1 => k0_off22 | 2 => k0_off23 | 3 => k0_off24 | 4 => k0_off25 | 5 => k0_off26 | 6 => k0_off27 | 7 => k0_off28
/-- The device hop `h` of ring `r` sends to. -/
def devT : Fin 6 → Fin 8 → Dev nD → ℕ
  | 0, 0 => k0_dev3 | 0, 1 => k0_dev4 | 0, 2 => k0_dev5 | 0, 3 => k0_dev6 | 0, 4 => k0_dev7 | 0, 5 => k0_dev8 | 0, 6 => k0_dev9 | 0, 7 => k0_dev10
  | 1, 0 => k0_dev11 | 1, 1 => k0_dev12 | 1, 2 => k0_dev13 | 1, 3 => k0_dev14 | 1, 4 => k0_dev15 | 1, 5 => k0_dev16 | 1, 6 => k0_dev17 | 1, 7 => k0_dev18
  | 2, 0 => k0_dev19 | 2, 1 => k0_dev20 | 2, 2 => k0_dev21 | 2, 3 => k0_dev22 | 2, 4 => k0_dev23 | 2, 5 => k0_dev24 | 2, 6 => k0_dev25 | 2, 7 => k0_dev26
  | 3, 0 => k0_dev27 | 3, 1 => k0_dev28 | 3, 2 => k0_dev29 | 3, 3 => k0_dev30 | 3, 4 => k0_dev31 | 3, 5 => k0_dev32 | 3, 6 => k0_dev33 | 3, 7 => k0_dev34
  | 4, 0 => k0_dev35 | 4, 1 => k0_dev36 | 4, 2 => k0_dev37 | 4, 3 => k0_dev38 | 4, 4 => k0_dev39 | 4, 5 => k0_dev40 | 4, 6 => k0_dev41 | 4, 7 => k0_dev42
  | 5, 0 => k0_dev43 | 5, 1 => k0_dev44 | 5, 2 => k0_dev45 | 5, 3 => k0_dev46 | 5, 4 => k0_dev47 | 5, 5 => k0_dev48 | 5, 6 => k0_dev49 | 5, 7 => k0_dev50

/-- The device after `c` and the device before it. -/
def nxt (c : Dev nD) : Dev nD := ⟨(c.val + 1) % 4, Nat.mod_lt _ (by decide)⟩
def prv (c : Dev nD) : Dev nD := ⟨(c.val + 3) % 4, Nat.mod_lt _ (by decide)⟩
/-- The device ring `r` of device `c` sends to, and the one it receives from. -/
def tgt (r : Fin 8) (c : Dev nD) : Dev nD := if r.val % 2 = 0 then nxt c else prv c
def src (r : Fin 8) (c : Dev nD) : Dev nD := if r.val % 2 = 0 then prv c else nxt c
/-- The device `j` places back along ring `r` from `c`: whose rows a block received after `j` hops is of. -/
def bk (r : Fin 8) : ℕ → Dev nD → Dev nD
  | 0, c => c
  | j + 1, c => bk r j (src r c)
/-- The column block of ring `r`. -/
def cb (r : Fin 8) : ℕ := (r.val % 2) * 4 + r.val / 2
/-- Where the block of rows `256 q …` and the columns of ring `r` starts. -/
abbrev oB (q : Dev nD) (r : Fin 8) : Fin 2 → ℕ := ![256 * q.val, 128 * cb r]

theorem offP_eq : ∀ (r : Fin 8) (c : Dev nD), offP r c = oB c r := by decide +kernel
theorem offO_eq : ∀ (r : Fin 8) (c : Dev nD), offO r c = oB c r := by decide +kernel
theorem offA_eq : ∀ (r : Fin 8) (c : Dev nD) (j : Fin 3), offA r c (BitVec.ofNat 32 (1 + j.val)) = oB (bk r (j.val + 1) c) r := by decide +kernel
theorem devT_eq : ∀ (h : Fin 6) (r : Fin 8) (c : Dev nD), devT h r c = (tgt r c).val := by decide +kernel
theorem off1_eq : ∀ c : Dev nD, k0_off1 c = ![256 * c.val, 0] := by decide +kernel
theorem off2_eq : ∀ c : Dev nD, k0_off2 c = ![256 * c.val, 0] := by decide +kernel
/-- The rows of the `j`-th product computed after the device's own. -/
def rw_ (j : ℕ) (c : Dev nD) : Dev nD := ⟨(c.val + j) % 4, Nat.mod_lt _ (by decide)⟩
theorem off11_eq : ∀ (c : Dev nD) (j : Fin 3), k0_off11 c (BitVec.ofNat 32 (1 + j.val)) = ![256 * (rw_ (j.val + 1) c).val, 0] := by decide +kernel
theorem off12_eq : ∀ (c : Dev nD) (j : Fin 3), k0_off12 c (BitVec.ofNat 32 (1 + j.val)) = ![256 * (rw_ (j.val + 1) c).val, 0] := by decide +kernel
theorem dev1_eq : ∀ c : Dev nD, k0_dev1 c = (prv c).val := by decide +kernel
theorem dev2_eq : ∀ c : Dev nD, k0_dev2 c = (nxt c).val := by decide +kernel

theorem inbB : ∀ (q : Dev nD) (r : Fin 8), ∀ a, (oB q r) a + S256x128.size a ≤ S1024x1024.size a := by decide +kernel
theorem inbP (r : Fin 8) (c : Dev nD) : ∀ a, offP r c a + S256x128.size a ≤ S1024x1024.size a := by rw [offP_eq]; exact inbB c r
theorem inbO (r : Fin 8) (c : Dev nD) : ∀ a, offO r c a + S256x128.size a ≤ S1024x1024.size a := by rw [offO_eq]; exact inbB c r
theorem inbA (r : Fin 8) (c : Dev nD) (j : Fin 3) : ∀ a, offA r c (BitVec.ofNat 32 (1 + j.val)) a + S256x128.size a ≤ S1024x1024.size a := by
  rw [offA_eq]; exact inbB _ r
theorem devT_lt (h : Fin 6) (r : Fin 8) (c : Dev nD) : devT h r c < nD := by rw [devT_eq]; exact (tgt r c).isLt
theorem wordsB : ∀ (q : Dev nD) (r : Fin 8), (Rect.unit (s := S1024x1024) (oB q r) S256x128.size (inbB q r)).WholeWords (EltTy.packing .bf16) := by
  decide +kernel
theorem inbW : ∀ (q : Dev nD), ∀ a, (![256 * q.val, 0] : Fin 2 → ℕ) a + S256x1024.size a ≤ S1024x1024.size a := by decide +kernel
theorem inbX : ∀ (q : Dev nD), ∀ a, (![256 * q.val, 0] : Fin 2 → ℕ) a + S256x256.size a ≤ S1024x256.size a := by decide +kernel

/-- The block of the partial products at an offset. -/
abbrev slP (o : Fin 2 → ℕ) (ho : ∀ a, o a + S256x128.size a ≤ S1024x1024.size a) : Memref sig .tc .vmem S256x128 .bf16 :=
  aP.slice (Rect.unit (s := S1024x1024) o S256x128.size ho) (fun _ => rfl)
theorem exP (r : Fin 8) (c : Dev nD) : (slP (offP r c) (inbP r c)).view.WordExact := by
  have : ∀ (o : Fin 2 → ℕ) (ho : ∀ a, o a + S256x128.size a ≤ S1024x1024.size a), o = oB c r → (slP o ho).view.WordExact := by
    intro o ho e; subst e
    exact (Memref.isWhole_whole cc0_scratch0).wordExact_slice rfl _ (wordsB c r)
  exact this _ _ (offP_eq r c)

/-! ## The values -/

/-- The product of a block of rows of `x` by `w`, rounded. -/
def dotv (w : FVec F S256x1024 .bf16) (x : Vec F S256x256 .bf16) : FVec F S256x1024 .bf16 := k0_pay3 (k0_pay2 w x)
/-- A received block added to a block of products. -/
def accv (v : FVec F S256x128 .bf16) (w : Vec F S1x1x256x128 .bf16) : FVec F S256x128 .bf16 := k0_pay20 v w
/-- A block laid out as a slot, and a slot as a block. -/
def toSlot (v : FVec F S256x128 .bf16) : FVec F S1x1x256x128 .bf16 := k0_pay21 v
/-- A block and a slot widened for the result. -/
def wide (v : FVec F S256x128 .bf16) : FVec F S256x128 .f32 := k0_pay45 v
def wideSlot (v : Vec F S1x1x256x128 .bf16) : FVec F S256x128 .f32 := k0_pay53 v

/-! ## The operations -/

/-- Signal one unit to a device's barrier. -/
def sgn (d : Dev nD) : PG F PUnit := semSignalWord d qB 1#32
/-- Wait for both neighbours' signals. -/
def barW : PG F PUnit := semWaitWord qB 2#32
def ldW : PG F (Vec F S256x1024 .bf16) :=
  Prog.lift (.load aW (Rect.unit (s := S256x1024) ![0, 0] S256x1024.size inb_S256x1024_S256x1024_0_0).toLoadRect (View.loadsAt_vmem h_S256x1024))
def ldX (o : Fin 2 → ℕ) (ho : ∀ a, o a + S256x256.size a ≤ S1024x256.size a) : PG F (Vec F S256x256 .bf16) :=
  Prog.lift (.load aX (Rect.unit (s := S1024x256) o S256x256.size ho).toLoadRect (View.loadsAt_vmem h_S256x256))
/-- Read the rows of the partial products about to be overwritten (the value is not used), then write them. -/
def stP (o : Fin 2 → ℕ) (ho : ∀ a, o a + S256x1024.size a ≤ S1024x1024.size a)
    (hp : (Rect.unit (s := S1024x1024) o S256x1024.size ho).PackedRows (EltTy.packing .bf16)) (v : FVec F S256x1024 .bf16) : PG F PUnit := do
  let _ ← (Prog.lift (.load aP (Rect.unit (s := S1024x1024) o S256x1024.size ho).toLoadRect (View.loadsAt_vmem h_S256x1024)) : PG F (Vec F S256x1024 .bf16))
  Prog.lift (.store aP (Rect.unit (s := S1024x1024) o S256x1024.size ho) v Finset.univ
    (View.stores_vmem h_S256x1024 ((Memref.isWhole_whole cc0_scratch0).storeExact_slice rfl _ hp) (fun _ => rfl)) (.inl rfl))
def ldP (o : Fin 2 → ℕ) (ho : ∀ a, o a + S256x128.size a ≤ S1024x1024.size a) : PG F (Vec F S256x128 .bf16) :=
  Prog.lift (.load aP (Rect.unit (s := S1024x1024) o S256x128.size ho).toLoadRect (View.loadsAt_vmem h_S256x128))
def ldR (r : Fin 8) (h : Fin 6) : PG F (Vec F S1x1x256x128 .bf16) :=
  Prog.lift (.load aR (rR r h).toLoadRect (View.loadsAt_vmem h_S1x1x256x128))
/-- Write a send slot, the value it held before read and dropped. -/
def stS (r : Fin 8) (k : Fin 2) (v : FVec F S1x1x256x128 .bf16) : PG F PUnit := do
  let _ ← (Prog.lift (.load aS (rS r k).toLoadRect (View.loadsAt_vmem h_S1x1x256x128)) : PG F (Vec F S1x1x256x128 .bf16))
  Prog.lift (.store aS (rS r k) v Finset.univ
    (View.stores_vmem h_S1x1x256x128 ((Memref.isWhole_whole cc0_scratch1).storeExact_slice rfl _ (packedS r k)) (fun _ => rfl)) (.inl rfl))
/-- Write a block of the result, the value it held before read and dropped. -/
def stO (o : Fin 2 → ℕ) (ho : ∀ a, o a + S256x128.size a ≤ S1024x1024.size a) (v : FVec F S256x128 .f32) : PG F PUnit := do
  let _ ← (Prog.lift (.load aO (Rect.unit (s := S1024x1024) o S256x128.size ho).toLoadRect (View.loadsAt_vmem h_S256x128)) : PG F (Vec F S256x128 .f32))
  Prog.lift (.store aO (Rect.unit (s := S1024x1024) o S256x128.size ho) v Finset.univ (View.stores_vmem_bits_univ h_S256x128 rfl) (.inl rfl))
/-- Send a block as hop `h` of ring `r` to a device. -/
def snd (b : Memref sig .tc .vmem S256x128 .bf16) (hb : b.view.WordExact) (d : Dev nD) (r : Fin 8) (h : Fin 6) : PG F PUnit :=
  Prog.lift (.enqueueDma b (.remote (Dev.tc d) (slR r h) (.dma (qS r h))) (.dma (qV r h)) hb (exR r h) ⟨⟨rfl, Or.inl rfl⟩, trivial⟩)
/-- Wait for hop `h` of ring `r` to arrive. -/
def wtR (b : Memref sig .tc .vmem S256x128 .bf16) (hb : b.view.WordExact) (r : Fin 8) (h : Fin 6) : PG F PUnit :=
  Prog.lift (.waitDma2 (qV r h) b (slR r h) hb (exR r h))
/-- Wait until the block sent as hop `h` of ring `r` may be overwritten. -/
def wtS (b : Memref sig .tc .vmem S256x128 .bf16) (hb : b.view.WordExact) (r : Fin 8) (h : Fin 6) : PG F PUnit :=
  Prog.lift (.waitDma2 (qS r h) (slR r h) b (exR r h) hb)

/-! ## The body -/

/-- The rings, in the order every loop takes them. -/
abbrev rings : List (Fin 8) := [0, 1, 2, 3, 4, 5, 6, 7]

/-- A step for every ring of a list, in order. -/
def forE (p : Fin 8 → PG F PUnit) : List (Fin 8) → PG F PUnit
  | [] => pure ⟨⟩
  | r :: rs => do p r; forE p rs
/-- The same where each step returns a block, the blocks kept by ring. -/
def forA (p : Fin 8 → PG F (FVec F S256x128 .bf16)) : List (Fin 8) → (Fin 8 → FVec F S256x128 .bf16) → PG F (Fin 8 → FVec F S256x128 .bf16)
  | [], f => pure f
  | r :: rs, f => do let a ← p r; forA p rs (fun i => if i = r then a else f i)

abbrev dv (c : Dev nD) (h : Fin 6) (r : Fin 8) : Dev nD := ⟨devT h r c, devT_lt h r c⟩

/-- The first hop of a ring. -/
def p0 (c : Dev nD) (r : Fin 8) : PG F PUnit := snd (slP (offP r c) (inbP r c)) (exP r c) (dv c 0 r) r 0
/-- The `j`-th of the products after the first. -/
def pd (c : Dev nD) (w : FVec F S256x1024 .bf16) (j : Fin 3) : PG F PUnit := do
  let x ← ldX (k0_off11 c (BitVec.ofNat 32 (1 + j.val))) (k0_off11_inb c j)
  stP (k0_off12 c (BitVec.ofNat 32 (1 + j.val))) (k0_off12_inb c j) (k0_off12_packedbf16 c j) (dotv w x)
/-- The three adding steps of a ring. -/
def p1 (c : Dev nD) (r : Fin 8) : PG F PUnit := do
  wtR (slP (offP r c) (inbP r c)) (exP r c) r 0
  let v ← ldP (offA r c (BitVec.ofNat 32 (1 + (0 : Fin 3).val))) (inbA r c 0)
  let w ← ldR r 0
  stS r 1 (toSlot (accv v w))
  snd (slS r 1) (exS r 1) (dv c 1 r) r 1
def p2 (c : Dev nD) (r : Fin 8) : PG F PUnit := do
  wtR (slS r 1) (exS r 1) r 1
  let v ← ldP (offA r c (BitVec.ofNat 32 (1 + (1 : Fin 3).val))) (inbA r c 1)
  let w ← ldR r 1
  wtS (slP (offP r c) (inbP r c)) (exP r c) r 0
  stS r 0 (toSlot (accv v w))
  snd (slS r 0) (exS r 0) (dv c 2 r) r 2
def p3 (c : Dev nD) (r : Fin 8) : PG F (FVec F S256x128 .bf16) := do
  wtR (slS r 0) (exS r 0) r 2
  let v ← ldP (offA r c (BitVec.ofNat 32 (1 + (2 : Fin 3).val))) (inbA r c 2)
  let w ← ldR r 2
  wtS (slS r 1) (exS r 1) r 1
  stS r 1 (toSlot (accv v w))
  snd (slS r 1) (exS r 1) (dv c 3 r) r 3
  pure (accv v w)
/-- The stores and the copying steps of a ring. -/
def o3 (c : Dev nD) (f : Fin 8 → FVec F S256x128 .bf16) (r : Fin 8) : PG F PUnit :=
  stO (offA r c (BitVec.ofNat 32 (1 + (2 : Fin 3).val))) (inbA r c 2) (wide (f r))
def p4 (c : Dev nD) (r : Fin 8) : PG F PUnit := do
  wtR (slS r 1) (exS r 1) r 3
  snd (slR r 3) (exR r 3) (dv c 4 r) r 4
def o4 (c : Dev nD) (r : Fin 8) : PG F PUnit := do
  let w ← ldR r 3
  stO (offO r c) (inbO r c) (wideSlot w)
def p5 (c : Dev nD) (r : Fin 8) : PG F PUnit := do
  wtR (slR r 3) (exR r 3) r 4
  snd (slR r 4) (exR r 4) (dv c 5 r) r 5
def o5 (c : Dev nD) (r : Fin 8) : PG F PUnit := do
  let w ← ldR r 4
  stO (offA r c (BitVec.ofNat 32 (1 + (0 : Fin 3).val))) (inbA r c 0) (wideSlot w)
def o6 (c : Dev nD) (r : Fin 8) : PG F PUnit := do
  wtR (slR r 4) (exR r 4) r 5
  let w ← ldR r 5
  stO (offA r c (BitVec.ofNat 32 (1 + (1 : Fin 3).val))) (inbA r c 1) (wideSlot w)
/-- The waits that end a ring. -/
def p7 (r : Fin 8) : PG F PUnit := do
  wtS (slS r 0) (exS r 0) r 2
  wtS (slS r 1) (exS r 1) r 3
  wtS (slR r 3) (exR r 3) r 4
  wtS (slR r 4) (exR r 4) r 5

/-- The body on device `c`. -/
def gbody (c : Dev nD) : PG F PUnit := do
  sgn ⟨k0_dev1 c, k0_dev1_lt c⟩
  sgn ⟨k0_dev2 c, k0_dev2_lt c⟩
  let w ← ldW
  let x ← ldX (k0_off1 c) (k0_off1_inb c)
  stP (k0_off2 c) (k0_off2_inb c) (k0_off2_packedbf16 c) (dotv w x)
  barW
  forE (p0 c) rings
  pd c w 0
  pd c w 1
  pd c w 2
  forE (p1 c) rings
  forE (p2 c) rings
  let f ← forA (p3 c) rings (fun _ => constant S256x128 .bf16 0x0000#16)
  forE (o3 c f) rings
  forE (p4 c) rings
  forE (o4 c) rings
  forE (p5 c) rings
  forE (o5 c) rings
  forE (o6 c) rings
  forE p7 rings

end Cert.KernelIdeal.Own

end
-- ==== Proof.Geo.lean ====
/- The blocks the buffers are cut into: each family is pairwise disjoint and covers what it cuts. -/
module

public import proofs.«01_k».proof.Proof.Prog

@[expose] public section

noncomputable section

namespace Cert.KernelIdeal.Own

open Idealize.ShloMosaic Idealize.ShloMosaic.TcCoe Idealize.SL.Sem
open Cert.KernelIdeal.Gen

/-- The rows of device `q` in a 1024 × 1024 buffer, the block of those rows and ring `r`'s columns, and the
    rows of device `q` in a staged block of `x`. -/
abbrev rP (q : Dev nD) : Rect S1024x1024 := Rect.unit (s := S1024x1024) ![256 * q.val, 0] S256x1024.size (inbW q)
abbrev rB (q : Dev nD) (r : Fin 8) : Rect S1024x1024 := Rect.unit (s := S1024x1024) (oB q r) S256x128.size (inbB q r)
abbrev rX (q : Dev nD) : Rect S1024x256 := Rect.unit (s := S1024x256) ![256 * q.val, 0] S256x256.size (inbX q)
abbrev rW : Rect S256x1024 := Rect.unit (s := S256x1024) ![0, 0] S256x1024.size inb_S256x1024_S256x1024_0_0

/-! ## The ring's neighbours -/

theorem prv_nxt : ∀ c : Dev nD, prv (nxt c) = c := by decide
theorem nxt_prv : ∀ c : Dev nD, nxt (prv c) = c := by decide
theorem src_tgt : ∀ (r : Fin 8) (c : Dev nD), src r (tgt r c) = c := by decide
theorem tgt_src : ∀ (r : Fin 8) (c : Dev nD), tgt r (src r c) = c := by decide
theorem bk4 : ∀ (r : Fin 8) (c : Dev nD), bk r 4 c = c := by decide
theorem src_bk3 : ∀ (r : Fin 8) (c : Dev nD), src r (bk r 3 c) = c := by decide

/-- A ring's devices: the one it receives from, the one it sends to. -/
def ringE (r : Fin 8) : Dev nD ≃ Dev nD := ⟨tgt r, src r, src_tgt r, tgt_src r⟩
def nxtE : Dev nD ≃ Dev nD := ⟨nxt, prv, prv_nxt, nxt_prv⟩

theorem cb_lt : ∀ r : Fin 8, cb r < 8 := by decide
theorem cb_inj : ∀ r r' : Fin 8, cb r = cb r' → r = r' := by decide
theorem cb_onto : ∀ k : Fin 8, ∃ r : Fin 8, cb r = k.val := by decide

/-! ## Membership in a block -/

theorem mem_rP {q : Dev nD} {i : S1024x1024.Idx} : i ∈ (rP q).set ↔ 256 * q.val ≤ (i 0).val ∧ (i 0).val < 256 * q.val + 256 := by
  rw [Rect.mem_set_unit]
  constructor
  · intro h; exact h 0
  · intro h a
    fin_cases a
    · exact h
    · exact ⟨Nat.zero_le _, by have := (i 1).isLt; simpa using this⟩
theorem mem_rB {q : Dev nD} {r : Fin 8} {i : S1024x1024.Idx} : i ∈ (rB q r).set
    ↔ (256 * q.val ≤ (i 0).val ∧ (i 0).val < 256 * q.val + 256) ∧ (128 * cb r ≤ (i 1).val ∧ (i 1).val < 128 * cb r + 128) := by
  rw [Rect.mem_set_unit]
  constructor
  · intro h; exact ⟨h 0, h 1⟩
  · intro h a
    fin_cases a
    · exact h.1
    · exact h.2
theorem mem_rR {r : Fin 8} {h : Fin 6} {i : S8x6x256x128.Idx} : i ∈ (rR r h).set ↔ (i 0).val = r.val ∧ (i 1).val = h.val := by
  rw [Rect.mem_set_unit]
  constructor
  · intro H
    have h0 : r.val ≤ (i 0).val ∧ (i 0).val < r.val + 1 := H 0
    have h1 : h.val ≤ (i 1).val ∧ (i 1).val < h.val + 1 := H 1
    omega
  · rintro ⟨h0, h1⟩ a
    fin_cases a
    · show r.val ≤ (i 0).val ∧ (i 0).val < r.val + 1; omega
    · show h.val ≤ (i 1).val ∧ (i 1).val < h.val + 1; omega
    · exact ⟨Nat.zero_le _, by have := (i 2).isLt; simpa using this⟩
    · exact ⟨Nat.zero_le _, by have := (i 3).isLt; simpa using this⟩
theorem mem_rS {r : Fin 8} {k : Fin 2} {i : S8x2x256x128.Idx} : i ∈ (rS r k).set ↔ (i 0).val = r.val ∧ (i 1).val = k.val := by
  rw [Rect.mem_set_unit]
  constructor
  · intro H
    have h0 : r.val ≤ (i 0).val ∧ (i 0).val < r.val + 1 := H 0
    have h1 : k.val ≤ (i 1).val ∧ (i 1).val < k.val + 1 := H 1
    omega
  · rintro ⟨h0, h1⟩ a
    fin_cases a
    · show r.val ≤ (i 0).val ∧ (i 0).val < r.val + 1; omega
    · show k.val ≤ (i 1).val ∧ (i 1).val < k.val + 1; omega
    · exact ⟨Nat.zero_le _, by have := (i 2).isLt; simpa using this⟩
    · exact ⟨Nat.zero_le _, by have := (i 3).isLt; simpa using this⟩

/-! ## Disjoint, and covering -/

theorem rP_disj : ∀ q ∈ (Finset.univ : Finset (Dev nD)), ∀ q' ∈ (Finset.univ : Finset (Dev nD)), q ≠ q' → Disjoint (rP q).set (rP q').set := by
  intro q _ q' _ h
  refine Finset.disjoint_left.mpr fun i hi hi' => h (Fin.ext ?_)
  rw [mem_rP] at hi hi'; omega
theorem rP_cover : (Finset.univ : Finset (Dev nD)).biUnion (fun q => (rP q).set) = Finset.univ := by
  refine Finset.eq_univ_of_forall fun i => Finset.mem_biUnion.mpr ?_
  have h0 : (i 0).val < 1024 := (i 0).isLt
  exact ⟨⟨(i 0).val / 256, by show _ < 4; omega⟩, Finset.mem_univ _, mem_rP.mpr (by dsimp only; omega)⟩

theorem rB_disj : ∀ p ∈ (Finset.univ : Finset (Dev nD × Fin 8)), ∀ p' ∈ (Finset.univ : Finset (Dev nD × Fin 8)), p ≠ p' →
    Disjoint (rB p.1 p.2).set (rB p'.1 p'.2).set := by
  rintro ⟨q, r⟩ _ ⟨q', r'⟩ _ h
  refine Finset.disjoint_left.mpr fun i hi hi' => h ?_
  rw [mem_rB] at hi hi'; dsimp only at hi hi'
  have hq : q = q' := Fin.ext (by omega)
  have hr : r = r' := cb_inj _ _ (by omega)
  rw [hq, hr]
theorem rB_row (q : Dev nD) : (Finset.univ : Finset (Fin 8)).biUnion (fun r => (rB q r).set) = (rP q).set := by
  ext i
  rw [Finset.mem_biUnion, mem_rP]
  constructor
  · rintro ⟨r, _, h⟩; exact (mem_rB.mp h).1
  · intro h
    have h1 : (i 1).val < 1024 := (i 1).isLt
    obtain ⟨r, hr⟩ := cb_onto ⟨(i 1).val / 128, by omega⟩
    exact ⟨r, Finset.mem_univ _, mem_rB.mpr ⟨h, by rw [hr]; dsimp only; omega⟩⟩
theorem rB_cover : (Finset.univ : Finset (Dev nD × Fin 8)).biUnion (fun p => (rB p.1 p.2).set) = Finset.univ := by
  refine Finset.eq_univ_of_forall fun i => Finset.mem_biUnion.mpr ?_
  have h : i ∈ (Finset.univ : Finset (Dev nD)).biUnion (fun q => (rP q).set) := by rw [rP_cover]; exact Finset.mem_univ _
  obtain ⟨q, _, hq⟩ := Finset.mem_biUnion.mp h
  rw [← rB_row] at hq
  obtain ⟨r, _, hr⟩ := Finset.mem_biUnion.mp hq
  exact ⟨(q, r), Finset.mem_univ _, hr⟩

theorem rR_disj : ∀ p ∈ (Finset.univ : Finset (Fin 8 × Fin 6)), ∀ p' ∈ (Finset.univ : Finset (Fin 8 × Fin 6)), p ≠ p' →
    Disjoint (rR p.1 p.2).set (rR p'.1 p'.2).set := by
  rintro ⟨r, h⟩ _ ⟨r', h'⟩ _ hne
  refine Finset.disjoint_left.mpr fun i hi hi' => hne ?_
  rw [mem_rR] at hi hi'; dsimp only at hi hi'
  rw [Prod.mk.injEq]; exact ⟨Fin.ext (by omega), Fin.ext (by omega)⟩
theorem rR_cover : (Finset.univ : Finset (Fin 8 × Fin 6)).biUnion (fun p => (rR p.1 p.2).set) = Finset.univ := by
  refine Finset.eq_univ_of_forall fun i => Finset.mem_biUnion.mpr ?_
  exact ⟨(⟨(i 0).val, (i 0).isLt⟩, ⟨(i 1).val, (i 1).isLt⟩), Finset.mem_univ _, mem_rR.mpr ⟨rfl, rfl⟩⟩
theorem rS_disj : ∀ p ∈ (Finset.univ : Finset (Fin 8 × Fin 2)), ∀ p' ∈ (Finset.univ : Finset (Fin 8 × Fin 2)), p ≠ p' →
    Disjoint (rS p.1 p.2).set (rS p'.1 p'.2).set := by
  rintro ⟨r, h⟩ _ ⟨r', h'⟩ _ hne
  refine Finset.disjoint_left.mpr fun i hi hi' => hne ?_
  rw [mem_rS] at hi hi'; dsimp only at hi hi'
  rw [Prod.mk.injEq]; exact ⟨Fin.ext (by omega), Fin.ext (by omega)⟩
theorem rS_cover : (Finset.univ : Finset (Fin 8 × Fin 2)).biUnion (fun p => (rS p.1 p.2).set) = Finset.univ := by
  refine Finset.eq_univ_of_forall fun i => Finset.mem_biUnion.mpr ?_
  exact ⟨(⟨(i 0).val, (i 0).isLt⟩, ⟨(i 1).val, (i 1).isLt⟩), Finset.mem_univ _, mem_rS.mpr ⟨rfl, rfl⟩⟩

/-- A block's index lies in the block. -/
theorem emb_mem {s : Shape} (r : Rect s) (j : r.shape.Idx) : r.emb j ∈ r.set := by
  rw [← r.map_emb_univ]; exact Finset.mem_map_of_mem _ (Finset.mem_univ j)

end Cert.KernelIdeal.Own

end
-- ==== Proof.Sched.lean ====
/- What the devices exchange: the cells of the protocol, the blocks that travel and their values, what each
   semaphore hands over, what every device owes at launch, and the levels that order the waits. -/
module

public import proofs.«01_k».proof.Proof.Geo
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.BigSepL
public import Idealize.ShloMosaic.Lib.MemrefSat
public import Idealize.ShloMosaic.Lib.Tactic

@[expose] public section

noncomputable section

namespace Cert.KernelIdeal.Own

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user's resource: the pipeline's, and the rounds of the protocol's cells. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state the run starts in. -/
def s₀ : MemSt nD τ sig (Elt F) := ⟨m, fun _ => 0, ρ⟩

/-! ## The cells -/

/-- The names of a device's cells: none for the barrier, `(false, r, h)` for the cell hop `h` of ring `r`
    credits on its sender, `(true, r, h)` for the one it credits on its receiver. -/
abbrev Key : Type := Bool × Fin 8 × Fin 6

/-- The semaphores the transfers credit. -/
abbrev osem : Key → SemLoc sig := fun k => .dma (if k.1 then qV k.2.1 k.2.2 else qS k.2.1 k.2.2)
/-- All semaphores of the protocol. -/
abbrev csem : Option Key → SemLoc sig
  | none => .reg qB
  | some k => osem k
abbrev kcell (ck : Dev nD × Option Key) : GSem nD τ sig := ((ck.1 : Thread nD τ), csem ck.2)
abbrev bCell (c : Dev nD) : GSem nD τ sig := kcell (c, none)
abbrev sCell (c : Dev nD) (r : Fin 8) (h : Fin 6) : GSem nD τ sig := kcell (c, some (false, r, h))
abbrev vCell (c : Dev nD) (r : Fin 8) (h : Fin 6) : GSem nD τ sig := kcell (c, some (true, r, h))

theorem qS_val : ∀ (r : Fin 8) (h : Fin 6), (qS r h).val = 3 + 6 * r.val + h.val := by decide +kernel
theorem qV_val : ∀ (r : Fin 8) (h : Fin 6), (qV r h).val = 51 + 6 * r.val + h.val := by decide +kernel

theorem osem_inj : Function.Injective osem := by
  rintro ⟨b, r, h⟩ ⟨b', r', h'⟩ e
  have e1 : (if b then qV r h else qS r h) = (if b' then qV r' h' else qS r' h') := by injection e
  have e2 := congrArg Fin.val e1
  have h1 := r.isLt; have h2 := h.isLt; have h3 := r'.isLt; have h4 := h'.isLt
  cases b <;> cases b' <;> simp only [Bool.false_eq_true, if_false, if_true, qS_val, qV_val] at e2
  · rw [Prod.mk.injEq, Prod.mk.injEq]; exact ⟨rfl, Fin.ext (by omega), Fin.ext (by omega)⟩
  · omega
  · omega
  · rw [Prod.mk.injEq, Prod.mk.injEq]; exact ⟨rfl, Fin.ext (by omega), Fin.ext (by omega)⟩
theorem csem_inj : Function.Injective csem := by
  rintro (_ | k) (_ | k') e
  · rfl
  · cases e
  · cases e
  · exact congrArg some (osem_inj e)
theorem kcell_inj : Function.Injective kcell := by
  rintro ⟨c, k⟩ ⟨c', k'⟩ e
  have h1 : c = c' := congrArg (fun g : GSem nD τ sig => g.1.1) e
  have h2 : csem k = csem k' := congrArg Prod.snd e
  rw [h1, csem_inj h2]
theorem kcell_eq {c c' : Dev nD} {k k' : Option Key} : kcell (c, k) = kcell (c', k') ↔ c = c' ∧ k = k' :=
  ⟨fun h => by have := kcell_inj h; rw [Prod.mk.injEq] at this; exact this, fun h => by rw [h.1, h.2]⟩

/-- The name of a semaphore, if it is one of the protocol's. -/
def dec : SemLoc sig → Option (Option Key) := Function.partialInv csem
theorem dec_csem (k : Option Key) : dec (csem k) = some k := Function.partialInv_left csem_inj k

/-- The units a transfer of a block adds. -/
abbrev N : ℕ := (slR 0 0).view.dmaCredit
theorem N_pos : 0 < N := View.dmaCredit_pos _ (by decide)

/-! ## The blocks -/

/-- The block of rows of device `q` and columns of ring `r` in the partial products and in the result, and the
    rows of device `q` in the partial products. -/
abbrev mP (q : Dev nD) (r : Fin 8) : Memref sig .tc .vmem S256x128 .bf16 := slP (oB q r) (inbB q r)
abbrev mO (q : Dev nD) (r : Fin 8) : Memref sig .tc .vmem S256x128 .f32 := aO.slice (rB q r) (fun _ => rfl)
abbrev mRow (q : Dev nD) : Memref sig .tc .vmem S256x1024 .bf16 := aP.slice (rP q) (fun _ => rfl)

/-- What hop `h` of ring `r` is sent from on device `c`. -/
abbrev sM (c : Dev nD) (r : Fin 8) : Fin 6 → Memref sig .tc .vmem S256x128 .bf16
  | 0 => mP c r | 1 => slS r 1 | 2 => slS r 0 | 3 => slS r 1 | 4 => slR r 3 | 5 => slR r 4
/-- The share of it the transfer takes: the whole, or one half where the block is read meanwhile. -/
abbrev sQ : Fin 6 → PosShare TreeShare
  | 4 => fullShare.right | 5 => fullShare.right | _ => fullShare

/-! ## The values -/

/-- The staged blocks of the arguments. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
/-- The block of `w`, and the rows of device `q` of the block of `x`, as the kernel reads them. -/
def wv (c : Dev nD) : Vec F S256x1024 .bf16 := fun j => wstg m ρ c (rW.emb j)
def xrow (c q : Dev nD) : Vec F S256x256 .bf16 := fun j => xstg m ρ c ((rX q).emb j)
/-- Device `c`'s product for the rows of device `q`, -/
def dq (c q : Dev nD) : Vec F S256x1024 .bf16 := dotv (wv m ρ c) (xrow m ρ c q)
/-- a ring's columns of a block of rows, -/
def cols (r : Fin 8) (X : Vec F S256x1024 .bf16) : Vec F S256x128 .bf16 :=
  fun j => X (fun a => match a with
    | ⟨0, _⟩ => ⟨(j 0).val, (j 0).isLt⟩
    | ⟨1, _⟩ => ⟨128 * cb r + (j 1).val, by have h1 := cb_lt r; have h2 : (j 1).val < 128 := (j 1).isLt; show _ < 1024; omega⟩)
/-- and its piece on ring `r`. -/
def Pb (c q : Dev nD) (r : Fin 8) : Vec F S256x128 .bf16 := cols r (dq m ρ c q)

/-- A block of products plus a received block. -/
def accB (v w : Vec F S256x128 .bf16) : Vec F S256x128 .bf16 := (addf v w : FVec F S256x128 .bf16)

/-- What device `c` sends as hop `h` of ring `r`: its own product first, then what it received with its own
    product for the same rows added, and after three such steps what it received. -/
def Sv : ℕ → Dev nD → Fin 8 → Vec F S256x128 .bf16
  | 0, c, r => Pb m ρ c c r
  | h + 1, c, r => if h < 3 then accB (Pb m ρ c (bk r (h + 1) c) r) (Sv h (src r c) r) else Sv h (src r c) r
/-- The finished block of rows `q` and ring `r`. -/
def full (q : Dev nD) (r : Fin 8) : Vec F S256x128 .bf16 := Sv m ρ 3 (src r q) r

/-! ## The schedule -/

/-- A block held whole at contents of no interest: what a landing needs. -/
def free (c : Dev nD) {s : Shape} {e : EltTy} (b : Memref sig .tc .vmem s e) : sProp 𝕄 :=
  iprop(∃ X, owns (c : Thread nD τ) b fullShare X)

instance free_storable (c : Dev nD) {s : Shape} {e : EltTy} (b : Memref sig .tc .vmem s e) : BI.Storable (upEmb : UEmb _ 𝕄) (free (F := F) c b) := by
  unfold free; infer_instance

/-- The rings that run forwards, or those that run backwards. -/
def dirs (b : Bool) : Finset (Fin 8) := if b then Finset.univ.filter (fun r => r.val % 2 = 0) else Finset.univ.filter (fun r => ¬ r.val % 2 = 0)

/-- What a cell of device `c` hands over: the barrier, from each neighbour, the neighbour's receive slots of the
    rings that lead to it; a sender's cell, the block sent; a receiver's, the slot with the block arrived. -/
def pay (c : Dev nD) : Option Key → Bool → sProp 𝕄
  | none, b => bigSep (dirs b) fun r => bigSep (Finset.univ : Finset (Fin 6)) fun h => free (tgt r c) (slR r h)
  | some (false, r, h), _ => owns (c : Thread nD τ) (sM c r h) (sQ h) (Sv m ρ h.val c r)
  | some (true, r, h), _ => owns (c : Thread nD τ) (slR r h) fullShare (Sv m ρ h.val (src r c) r)

instance pay_storable (c : Dev nD) (k : Option Key) (b : Bool) : BI.Storable (upEmb : UEmb _ 𝕄) (pay m ρ c k b) := by
  rcases k with _ | ⟨_ | _, r, h⟩ <;> unfold pay <;> infer_instance

/-- Every cell has one round: the barrier's of one unit from each neighbour, a transfer's cell's of one block. -/
def sched : Rounds.Schedule (GSem nD τ sig) Bool 𝕄 where
  duties g r := if r = 0 ∧ g.1.2 = .tc then (match dec g.2 with | some none => Finset.univ | some (some _) => {false} | none => ∅) else ∅
  unitless _ := False
  amount g _ _ := match dec g.2 with | some none => 1 | _ => N
  payload g _ b := match dec g.2 with | some k => pay m ρ g.1.1 k b | none => iprop(emp)
  amount_pos g _ _ _ := by
    split
    · exact Nat.one_pos
    · exact N_pos

instance sched_storable (g : GSem nD τ sig) (r : ℕ) (b : Bool) : BI.Storable (upEmb : UEmb _ 𝕄) ((sched m ρ).payload g r b) := by
  show BI.Storable upEmb (match dec g.2 with | some k => pay m ρ g.1.1 k b | none => iprop(emp))
  split <;> infer_instance

theorem duties_b (c : Dev nD) : (sched m ρ).duties (bCell c) 0 = Finset.univ := by
  dsimp only [sched]; rw [if_pos ⟨rfl, rfl⟩, dec_csem]
theorem duties_k (c : Dev nD) (k : Key) : (sched m ρ).duties (kcell (c, some k)) 0 = {false} := by
  dsimp only [sched]; rw [if_pos ⟨rfl, rfl⟩, show dec (osem k) = some (some k) from dec_csem (some k)]
theorem duties_later (g : GSem nD τ sig) : ∀ r, 1 ≤ r → (sched m ρ).duties g r = ∅ :=
  fun r hr => by dsimp only [sched]; rw [if_neg fun h => by omega]
theorem amount_b (c : Dev nD) (b : Bool) : (sched m ρ).amount (bCell c) 0 b = 1 := by
  dsimp only [sched]; rw [dec_csem]
theorem amount_k (c : Dev nD) (k : Key) (b : Bool) : (sched m ρ).amount (kcell (c, some k)) 0 b = N := by
  dsimp only [sched]; rw [show dec (osem k) = some (some k) from dec_csem (some k)]
theorem payload_k (c : Dev nD) (k : Option Key) (b : Bool) : (sched m ρ).payload (kcell (c, k)) 0 b = pay m ρ c k b := by
  dsimp only [sched]; rw [dec_csem]
theorem expect_b (c : Dev nD) : (sched m ρ).expect (bCell c) 0 = 2 := by
  unfold Schedule.expect Schedule.amountOf
  rw [duties_b, Finset.sum_congr rfl fun d _ => amount_b m ρ c d, Finset.sum_const, Finset.card_univ, Fintype.card_bool, smul_eq_mul]
theorem expect_k (c : Dev nD) (k : Key) : (sched m ρ).expect (kcell (c, some k)) 0 = N := by
  unfold Schedule.expect Schedule.amountOf; rw [duties_k, Finset.sum_singleton, amount_k]
theorem rest_k (c : Dev nD) (k : Key) :
    bigSep ((sched m ρ).duties (kcell (c, some k)) 0 \ ∅) (fun d => (sched m ρ).payload (kcell (c, some k)) 0 d) = pay m ρ c (some k) false := by
  rw [Finset.sdiff_empty, duties_k, bigSep_singleton, payload_k]
/-- Both neighbours' signals together bring the slots every ring of the device sends to. -/
theorem rest_b (c : Dev nD) :
    bigSep ((sched m ρ).duties (bCell c) 0 \ ∅) (fun d => (sched m ρ).payload (bCell c) 0 d)
      = bigSep Finset.univ fun r : Fin 8 => bigSep (Finset.univ : Finset (Fin 6)) fun h => free (F := F) (tgt r c) (slR r h) := by
  rw [Finset.sdiff_empty, duties_b, bigSep_univ_eq_bigSepL [true, false] (by decide) (by decide), bigSepL_cons_cons, bigSepL_singleton,
    payload_k, payload_k, bigSep_filter_split Finset.univ (fun r : Fin 8 => r.val % 2 = 0)]
  rfl

/-! ## What each device owes; the levels -/

/-- The credits of a list of transfers device `c` is still to make, at the receivers' cells. -/
def owL (c : Dev nD) : List (Fin 8 × Fin 6) → CellTallies nD τ sig Unit
  | [] => 0
  | p :: l => owL c l + tallyAt (vCell (tgt p.1 c) p.1 p.2) () N
/-- The transfers of the last `n` hops, in order. -/
def pend : ℕ → List (Fin 8 × Fin 6)
  | 0 => []
  | n + 1 => rings.map (fun r => (r, ⟨5 - n, by omega⟩)) ++ pend n
/-- What device `c` owes at launch: all its transfers, and a unit to each neighbour's barrier. -/
def O₁ (c : Dev nD) : CellTallies nD τ sig Unit := owL c (pend 6) + tallyAt (bCell (nxt c)) () 1
def O₀ (c : Dev nD) : CellTallies nD τ sig Unit := O₁ c + tallyAt (bCell (prv c)) () 1

def L (g : GSem nD τ sig) : Finset Unit := if g.1.2 = .tc then {()} else ∅
/-- The barrier's level is 1, a receiver's cell of hop `h` is at `h + 2`, everything else at 0. -/
def lvK : Option Key → ℕ
  | none => 1 | some (false, _, _) => 0 | some (true, _, h) => h.val + 2
def lv (g : GSem nD τ sig) (_ : Unit) : ℕ := match dec g.2 with | some k => lvK k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : Option Key) (u : Unit) : lv (kcell (c, k)) u = lvK k := by dsimp only [lv]; rw [dec_csem]

theorem owL_pos {c : Dev nD} {l : List (Fin 8 × Fin 6)} {g : GSem nD τ sig} {u : Unit} (h : 0 < owL c l g u) :
    ∃ p ∈ l, g = vCell (tgt p.1 c) p.1 p.2 := by
  induction l with
  | nil => exact absurd h (lt_irrefl _)
  | cons p l ih =>
    unfold owL at h
    rw [Pi.add_apply, Finsupp.add_apply, tallyAt_apply] at h
    by_cases hg : g = vCell (tgt p.1 c) p.1 p.2
    · exact ⟨p, List.mem_cons_self, hg⟩
    · rw [if_neg (fun h' => hg h'.1), Nat.add_zero] at h
      obtain ⟨p', hp', e⟩ := ih h
      exact ⟨p', List.mem_cons_of_mem _ hp', e⟩
theorem three_pos {A : CellTallies nD τ sig Unit} {a b g : GSem nD τ sig} {u : Unit} (h : 0 < (A + tallyAt a () 1 + tallyAt b () 1) g u) :
    0 < A g u ∨ g = a ∨ g = b := by
  rw [Pi.add_apply, Finsupp.add_apply, Pi.add_apply, Finsupp.add_apply, tallyAt_apply, tallyAt_apply] at h
  by_contra hn; rw [not_or, not_or] at hn
  rw [if_neg (fun h' => hn.2.1 h'.1), if_neg (fun h' => hn.2.2 h'.1)] at h
  exact hn.1 h
theorem O₀_pos {c : Dev nD} {g : GSem nD τ sig} {u : Unit} (h : 0 < O₀ c g u) :
    (∃ p ∈ pend 6, g = vCell (tgt p.1 c) p.1 p.2) ∨ g = bCell (nxt c) ∨ g = bCell (prv c) :=
  (three_pos (A := owL c (pend 6)) h).imp_left owL_pos

/-- A device may wait on a cell of its own while it still owes only transfers whose cells lie higher. -/
theorem mayWait_list (c : Dev nD) (k : Option Key) (l : List (Fin 8 × Fin 6)) (hl : ∀ p ∈ l, lvK k < p.2.val + 2) :
    (levAts L lv : sProp 𝕄) ⊢ MayWait (c : Thread nD τ) (csem k) () (owL c l) :=
  MayOwe.of_cut (L := L) (lev := lv) (lvK k) (fun p hp => by rw [Finset.mem_singleton.mp hp, L_tc]; exact Finset.mem_singleton_self _)
    (fun g u hg => by obtain ⟨p, _, rfl⟩ := owL_pos hg; exact Finset.mem_singleton_self _)
    (fun p hp => by rw [Finset.mem_singleton.mp hp]; exact le_of_eq (lv_k c k ()))
    (fun g u hg => by
      obtain ⟨p, hp, rfl⟩ := owL_pos hg
      exact (hl p hp).trans_eq (lv_k _ (some (true, p.1, p.2)) u).symm)
/-- And on a semaphore of no cell while it owes what it owes at launch, or nothing. -/
theorem mayWait_stage (c : Dev nD) (q : DmaSem sig) (hq : ∀ k : Key, SemLoc.dma q ≠ osem k) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, _, rfl⟩ | rfl | rfl <;> exact Finset.mem_singleton_self _)
      (fun p hp => by
        rw [Finset.mem_singleton.mp hp]
        have hd : dec (SemLoc.dma q) = none := by
          unfold dec
          rw [Function.partialInv, dif_neg]
          rintro ⟨_ | k, hk⟩
          · cases hk
          · exact hq k hk.symm
        show (match dec (SemLoc.dma q) with | some k => lvK k | none => 0) ≤ 0
        rw [hd])
      (fun g u hg => by
        rcases O₀_pos hg with ⟨p, _, rfl⟩ | rfl | rfl
        · exact (Nat.succ_pos _).trans_eq (lv_k _ (some (true, p.1, p.2)) u).symm
        · exact Nat.one_pos.trans_eq (lv_k _ none u).symm
        · exact Nat.one_pos.trans_eq (lv_k _ none u).symm)
  · rw [MayWait_zero]; iintro -; iempintro

end Cert.KernelIdeal.Own

end
-- ==== Proof.Ops.lean ====
/- One rule for every operation of the body: what a device must hold to run it, and what it holds after. -/
module

public import proofs.«01_k».proof.Proof.Sched

@[expose] public section

noncomputable section

namespace Cert.KernelIdeal.Own

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Program `p` of device `c` runs safely and ends in `Q`. -/
abbrev Wp (c : Dev nD) {α : Type} (p : PG F α) (Q : α → sProp 𝕄) : sProp 𝕄 :=
  wp frame (wpE (defs₀ (F := F)) 𝒱₀ (c : Thread nD τ) none) Set.univ p Q

/-! ## Blocks of buffers -/

/-- Reading a block through a rectangle of its buffer. -/
theorem load_slice (c : Dev nD) {s : Shape} {e : EltTy} (b : Memref sig .tc .vmem s e) (r : Rect s) (hr : ∀ a, r.stride a = 1)
    {hl : b.view.LoadsAt r.toLoadRect} (q : PosShare TreeShare) (X : r.shape.Idx → Elt F e) {α : Type}
    {k : (r.shape.Idx → Elt F e) → PG F α} {Q : α → sProp 𝕄} :
    owns (c : Thread nD τ) (b.slice r hr) q X
      ⊢ iprop((owns (c : Thread nD τ) (b.slice r hr) q X -∗ Wp c (k X) Q) -∗ Wp c (.op (.load b r.toLoadRect hl) k) Q) := by
  unfold owns
  iintro ⟨%f, %hf, H⟩ Hk
  iapply (wp_load_rect 𝒱₀ (c : Thread nD τ) none Set.univ (m := b) (r := r) (subset_refl _)) $$ H
  iintro H
  rw [show (b.access r).read (Elt F) f = X from hf]
  iapply Hk
  iexists f
  isplitr; · ipureintro; exact hf
  iexact H

/-- Reading through a rectangle of a buffer held whole. -/
theorem load_whole (c : Dev nD) {s : Shape} {e : EltTy} (b : Memref sig .tc .vmem s e) (r : Rect s)
    {hl : b.view.LoadsAt r.toLoadRect} (q : PosShare TreeShare) (f : Buf (Elt F) (b.view.loc (c : Thread nD τ))) {α : Type}
    {k : (r.shape.Idx → Elt F e) → PG F α} {Q : α → sProp 𝕄} :
    ((b.view.loc (c : Thread nD τ)) ↦{q} f)
      ⊢ iprop((((b.view.loc (c : Thread nD τ)) ↦{q} f) -∗ Wp c (k ((b.access r).read (Elt F) f)) Q) -∗ Wp c (.op (.load b r.toLoadRect hl) k) Q) := by
  iintro H Hk
  iapply (wp_load_rect 𝒱₀ (c : Thread nD τ) none Set.univ (m := b) (r := r) (S := Finset.univ) (fun _ _ => Finset.mem_univ _)) $$ H
  iexact Hk

/-- Overwriting a block through a rectangle of its buffer. -/
theorem store_slice (c : Dev nD) {s : Shape} {e : EltTy} (b : Memref sig .tc .vmem s e) (r : Rect s) (hr : ∀ a, r.stride a = 1)
    (w : r.shape.Idx → Elt F e) {hx : (b.access r).Stores Finset.univ} {hm : Finset.univ = Finset.univ ∨ ∀ a, r.stride a = 1}
    (X : r.shape.Idx → Elt F e) {α : Type}
    {k : PUnit → PG F α} {Q : α → sProp 𝕄} :
    owns (c : Thread nD τ) (b.slice r hr) fullShare X
      ⊢ iprop((owns (c : Thread nD τ) (b.slice r hr) fullShare w -∗ Wp c (k ⟨⟩) Q) -∗ Wp c (.op (.store b r w Finset.univ hx hm) k) Q) := by
  unfold owns
  iintro ⟨%f, %hf, H⟩ Hk
  iapply (wp_store 𝒱₀ (c : Thread nD τ) none Set.univ (m := b) (r := r) (Mk := Finset.univ) (subset_of_eq (b.access r).setOn_univ)) $$ H
  iintro H
  iapply Hk
  iexists _
  isplitr; · ipureintro; exact View.read_write_univ f w
  iexact H

/-- Reading a block and then overwriting it. -/
theorem load_store_slice (c : Dev nD) {s : Shape} {e : EltTy} (b : Memref sig .tc .vmem s e) (r : Rect s) (hr : ∀ a, r.stride a = 1)
    {hl : b.view.LoadsAt r.toLoadRect}
    (w : r.shape.Idx → Elt F e) {hx : (b.access r).Stores Finset.univ} {hm : Finset.univ = Finset.univ ∨ ∀ a, r.stride a = 1}
    (X : r.shape.Idx → Elt F e) {α : Type}
    {k : PUnit → PG F α} {Q : α → sProp 𝕄} :
    owns (c : Thread nD τ) (b.slice r hr) fullShare X
      ⊢ iprop((owns (c : Thread nD τ) (b.slice r hr) fullShare w -∗ Wp c (k ⟨⟩) Q)
        -∗ Wp c (.op (.load b r.toLoadRect hl) fun _ => .op (.store b r w Finset.univ hx hm) k) Q) := by
  iintro H Hk
  iapply (load_slice c b r hr fullShare X) $$ H
  iintro H
  iapply (store_slice c b r hr w X) $$ H
  iexact Hk

/-- A block and its layout with two axes of size one in front, back and forth. -/
theorem reshape_twice {s s' : Shape} (h : s'.numel = s.numel) (h' : s.numel = s'.numel) (x : s.Idx) :
    Shape.reshapeEquiv h (Shape.reshapeEquiv h' x) = x := by
  simp [Shape.reshapeEquiv]

/-- A squeezed slot holding a block is the slot holding the block laid out as a slot. -/
theorem owns_squeeze (c : Dev nD) (b : Memref sig .tc .vmem S1x1x256x128 .bf16) (q : PosShare TreeShare) (X : Vec F S256x128 .bf16) :
    (owns (c : Thread nD τ) (b.squeeze S256x128 squeezes_S1x1x256x128_S256x128) q X : sProp 𝕄) = owns (c : Thread nD τ) b q (toSlot X) := by
  have hs : (b.squeeze S256x128 squeezes_S1x1x256x128_S256x128).view.set = b.view.set := View.set_reshape _ _
  have hr : ∀ f : b.view.ty.Contents (Elt F), (b.squeeze S256x128 squeezes_S1x1x256x128_S256x128).view.read (Elt F) f = X ↔ b.view.read (Elt F) f = toSlot X := by
    intro f
    have e1 : ∀ j, (b.squeeze S256x128 squeezes_S1x1x256x128_S256x128).view.read (Elt F) f j
        = b.view.read (Elt F) f (Shape.reshapeEquiv squeezes_S1x1x256x128_S256x128.numel_eq j) := fun _ => rfl
    constructor
    · intro h; funext j
      show _ = X (Shape.reshapeEquiv _ j)
      rw [← h, e1, reshape_twice]
    · intro h; funext j
      rw [e1, h]
      show X (Shape.reshapeEquiv _ _) = X j
      rw [reshape_twice]
  have h₁ : (owns (c : Thread nD τ) (b.squeeze S256x128 squeezes_S1x1x256x128_S256x128) q X : sProp 𝕄) ⊢ owns (c : Thread nD τ) b q (toSlot X) := by
    unfold owns; rw [hs]
    iintro ⟨%f, %hf, H⟩; iexists f
    isplitr; · ipureintro; exact (hr f).mp hf
    iexact H
  have h₂ : (owns (c : Thread nD τ) b q (toSlot X) : sProp 𝕄) ⊢ owns (c : Thread nD τ) (b.squeeze S256x128 squeezes_S1x1x256x128_S256x128) q X := by
    unfold owns; rw [hs]
    iintro ⟨%f, %hf, H⟩; iexists f
    isplitr; · ipureintro; exact (hr f).mpr hf
    iexact H
  exact BI.equiv_iff.mp ⟨h₁, h₂⟩

/-- A slot read back as a block is the block. -/
theorem accv_toSlot (v w : FVec F S256x128 .bf16) : accv v (toSlot w) = accB v w := by
  unfold accv accB k0_pay20 toSlot k0_pay21
  have : shapeCast S256x128 (shapeCast S1x1x256x128 w shapeCasts_S256x128_S1x1x256x128) shapeCasts_S1x1x256x128_S256x128 = w := by
    funext j; unfold shapeCast; rw [reshape_twice]
  rw [this]
theorem wideSlot_toSlot (w : FVec F S256x128 .bf16) : wideSlot (toSlot w) = wide w := by
  unfold wideSlot wide k0_pay53 k0_pay45 toSlot k0_pay21
  have : shapeCast S256x128 (shapeCast S1x1x256x128 w shapeCasts_S256x128_S1x1x256x128) shapeCasts_S1x1x256x128_S256x128 = w := by
    funext j; unfold shapeCast; rw [reshape_twice]
  rw [this]

theorem free_elim (c : Dev nD) {s : Shape} {e : EltTy} (b : Memref sig .tc .vmem s e) {R : sProp 𝕄}
    (h : ∀ X, owns (c : Thread nD τ) b fullShare X ⊢ R) : free (F := F) c b ⊢ R := by
  unfold free
  iintro ⟨%X, H⟩
  ihave H' := (h X) $$ H
  iexact H'
theorem free_intro (c : Dev nD) {s : Shape} {e : EltTy} (b : Memref sig .tc .vmem s e) (X : s.Idx → Elt F e) :
    owns (c : Thread nD τ) b fullShare X ⊢ (free (F := F) c b : sProp 𝕄) := by
  unfold free; iintro H; iexists X; iexact H

/-! ## The loads and stores of the body -/

section LoadStore

variable (c : Dev nD) {α : Type}

theorem ldP_rule (o : Fin 2 → ℕ) (ho) (p : Dev nD) (r : Fin 8) (e : o = oB p r) (q : PosShare TreeShare) (X : Vec F S256x128 .bf16)
    {k : Vec F S256x128 .bf16 → PG F α} {Q : α → sProp 𝕄} :
    owns (c : Thread nD τ) (mP p r) q X ⊢ iprop((owns (c : Thread nD τ) (mP p r) q X -∗ Wp c (k X) Q) -∗ Wp c (ldP o ho >>= k) Q) := by
  subst e; exact load_slice c aP (rB p r) (fun _ => rfl) q X
theorem ldR_rule (r : Fin 8) (h : Fin 6) (q : PosShare TreeShare) (X : Vec F S256x128 .bf16) {k : Vec F S1x1x256x128 .bf16 → PG F α} {Q : α → sProp 𝕄} :
    owns (c : Thread nD τ) (slR r h) q X ⊢ iprop((owns (c : Thread nD τ) (slR r h) q X -∗ Wp c (k (toSlot X)) Q) -∗ Wp c (ldR r h >>= k) Q) := by
  rw [owns_squeeze]; exact load_slice c aR (rR r h) (fun _ => rfl) q (toSlot X)
theorem stS_rule (r : Fin 8) (i : Fin 2) (v : Vec F S256x128 .bf16) {k : PUnit → PG F α} {Q : α → sProp 𝕄} :
    free c (slS r i) ⊢ iprop((owns (c : Thread nD τ) (slS r i) fullShare v -∗ Wp c (k ⟨⟩) Q) -∗ Wp c (stS r i (toSlot v) >>= k) Q) := by
  refine free_elim c _ fun X => ?_
  rw [owns_squeeze, owns_squeeze]
  exact load_store_slice c aS (rS r i) (fun _ => rfl) (toSlot v) (toSlot X)
theorem stO_rule (o : Fin 2 → ℕ) (ho) (p : Dev nD) (r : Fin 8) (e : o = oB p r) (v : Vec F S256x128 .f32) {k : PUnit → PG F α} {Q : α → sProp 𝕄} :
    free c (mO p r) ⊢ iprop((owns (c : Thread nD τ) (mO p r) fullShare v -∗ Wp c (k ⟨⟩) Q) -∗ Wp c (stO o ho v >>= k) Q) := by
  subst e
  refine free_elim c _ fun X => ?_
  exact load_store_slice c aO (rB p r) (fun _ => rfl) v X
theorem stP_rule (o : Fin 2 → ℕ) (ho) (hp) (p : Dev nD) (e : o = ![256 * p.val, 0]) (v : Vec F S256x1024 .bf16) {k : PUnit → PG F α} {Q : α → sProp 𝕄} :
    free c (mRow p) ⊢ iprop((owns (c : Thread nD τ) (mRow p) fullShare v -∗ Wp c (k ⟨⟩) Q) -∗ Wp c (stP o ho hp v >>= k) Q) := by
  subst e
  refine free_elim c _ fun X => ?_
  exact load_store_slice c aP (rP p) (fun _ => rfl) v X
/-- Reading the staged blocks of the arguments. -/
theorem ldX_rule (o : Fin 2 → ℕ) (ho) (p : Dev nD) (e : o = ![256 * p.val, 0]) {k : Vec F S256x256 .bf16 → PG F α} {Q : α → sProp 𝕄} :
    (((c : Thread nD τ).loc cc0_stg0_0) ↦{fullShare} xstg m ρ c)
      ⊢ iprop(((((c : Thread nD τ).loc cc0_stg0_0) ↦{fullShare} xstg m ρ c) -∗ Wp c (k (xrow m ρ c p)) Q) -∗ Wp c (ldX o ho >>= k) Q) := by
  subst e
  exact load_whole (F := F) c aX (rX p) fullShare _
theorem ldW_rule {k : Vec F S256x1024 .bf16 → PG F α} {Q : α → sProp 𝕄} :
    (((c : Thread nD τ).loc cc0_stg1_0) ↦{fullShare} wstg m ρ c)
      ⊢ iprop(((((c : Thread nD τ).loc cc0_stg1_0) ↦{fullShare} wstg m ρ c) -∗ Wp c (k (wv m ρ c)) Q) -∗ Wp c (ldW >>= k) Q) := by
  exact load_whole (F := F) c aW rW fullShare _

end LoadStore

end Cert.KernelIdeal.Own

end
-- ==== Proof.Comm.lean ====
/- Sending a block, waiting for one, and loops over the rings. -/
module

public import proofs.«01_k».proof.Proof.Ops

@[expose] public section

noncomputable section

namespace Cert.KernelIdeal.Own

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What every device knows, and what it holds for one hop of one ring -/

/-- Every cell's invariant, at the names `K`, and that its round is open. -/
def records (K : Dev nD × Option Key → ℕ) : sProp 𝕄 :=
  iprop((bigSep Finset.univ fun ck : Dev nD × Option Key => cellInv ER (sched m ρ) (K ck) (kcell ck))
    ∗ (bigSep Finset.univ fun ck : Dev nD × Option Key => reached ER (kcell ck) 0))
instance records_persistent (K : Dev nD × Option Key → ℕ) : BI.Persistent (records m ρ K) := by unfold records; infer_instance

theorem inv_at (K : Dev nD × Option Key → ℕ) (ck : Dev nD × Option Key) :
    (bigSep Finset.univ fun ck : Dev nD × Option Key => (cellInv ER (sched m ρ) (K ck) (kcell ck) : sProp 𝕄)) ⊢ cellInv ER (sched m ρ) (K ck) (kcell ck) :=
  bigSep_elim (Finset.mem_univ ck)
theorem reached_at (ck : Dev nD × Option Key) :
    (bigSep Finset.univ fun ck : Dev nD × Option Key => (reached ER (kcell ck) 0 : sProp 𝕄)) ⊢ reached ER (kcell ck) 0 :=
  bigSep_elim (Finset.mem_univ ck)
theorem records_inv (K : Dev nD × Option Key → ℕ) (ck : Dev nD × Option Key) : records m ρ K ⊢ cellInv ER (sched m ρ) (K ck) (kcell ck) := by
  unfold records
  iintro ⟨#H, -⟩
  iapply (inv_at m ρ K ck)
  iexact H
theorem records_reached (K : Dev nD × Option Key → ℕ) (ck : Dev nD × Option Key) : records m ρ K ⊢ (reached ER (kcell ck) 0 : sProp 𝕄) := by
  unfold records
  iintro ⟨-, #H⟩
  iapply (reached_at ck)
  iexact H

/-- The records and the levels. -/
def env (K : Dev nD × Option Key → ℕ) : sProp 𝕄 := iprop(records m ρ K ∗ levAts L lv)
instance env_persistent (K : Dev nD × Option Key → ℕ) : BI.Persistent (env m ρ K) := by unfold env; infer_instance

/-- Device `c` owes `O`. -/
def ow (c : Dev nD) (O : CellTallies nD τ sig Unit) : sProp 𝕄 := iprop(∃ W, owes (c : Thread nD τ) O W)
/-- The right to send hop `h` of ring `r`. -/
def may (c : Dev nD) (h : Fin 6) (r : Fin 8) : sProp 𝕄 :=
  iprop(dutyTok ER (sCell c r h) 0 false ∗ dutyTok ER (vCell (tgt r c) r h) 0 false ∗ free (tgt r c) (slR r h))
/-- What remains of it until the block sent is free again, -/
def sent (c : Dev nD) (h : Fin 6) (r : Fin 8) : sProp 𝕄 := cred (tallyAt (sCell c r h) () N)
/-- the right to wait for that, -/
def atS (c : Dev nD) (h : Fin 6) (r : Fin 8) : sProp 𝕄 := atPos ER (sCell c r h) 0 ∅ 0
/-- the right to wait for hop `h` of ring `r`, -/
def atV (c : Dev nD) (h : Fin 6) (r : Fin 8) : sProp 𝕄 := iprop(cred (tallyAt (vCell c r h) () N) ∗ atPos ER (vCell c r h) 0 ∅ 0)
/-- and the two cells' semaphores once they are done with. -/
def zS (c : Dev nD) (h : Fin 6) (r : Fin 8) : sProp 𝕄 := semVal (sCell c r h) 0
def zV (c : Dev nD) (h : Fin 6) (r : Fin 8) : sProp 𝕄 := semVal (vCell c r h) 0

/-! ## Waiting and sending -/

/-- Waiting for one of the device's transfers: its payload comes back, and its cell is done with. -/
theorem wait_rule (K : Dev nD × Option Key → ℕ) (c : Dev nD) (k : Key) (q : DmaSem sig) (hq : osem k = .dma q)
    {s s' : Shape} {e e' : EltTy} {sp sp' : Space}
    (sr : Memref sig .tc sp s e) (ds : Memref sig .tc sp' s' e') {hs : sr.view.WordExact} {hd : ds.view.WordExact}
    (hN : ds.view.dmaCredit = N) (l : List (Fin 8 × Fin 6)) (hl : ∀ p ∈ l, lvK (some k) < p.2.val + 2) {α : Type}
    {kk : PUnit → PG F α} {Q : α → sProp 𝕄} :
    iprop(env m ρ K ∗ ow c (owL c l) ∗ cred (tallyAt (kcell (c, some k)) () N) ∗ atPos ER (kcell (c, some k)) 0 ∅ 0)
      ⊢ iprop((ow c (owL c l) ∗ semVal (kcell (c, some k)) 0 ∗ pay m ρ c (some k) false -∗ Wp c (kk ⟨⟩) Q)
        -∗ Wp c (.op (.waitDma2 q sr ds hs hd) kk) Q) := by
  have hg : kcell (c, some k) = (((c : Thread nD τ), SemLoc.dma q) : GSem nD τ sig) := by rw [← hq]
  have hw : (levAts L lv : sProp 𝕄) ⊢ MayWait (c : Thread nD τ) (.dma q) () (owL c l) := by
    have := mayWait_list (F := F) c (some k) l hl
    rwa [show csem (some k) = SemLoc.dma q from hq] at this
  have hrest := rest_k m ρ c k
  have hexp := expect_k m ρ c k
  unfold env ow
  iintro ⟨⟨#HR, #HL⟩, ⟨%W, HO⟩, Hc, Hat⟩ Hk
  ihave HI := (records_inv m ρ K (c, some k)) $$ HR
  rw [hg] at *
  iapply (Rounds.wp_wait_rest_token 𝒱₀ ER (sched m ρ) (c : Thread nD τ) none (κ := K (c, some k))
      (wpE_waitDma2_eq 𝒱₀ (c : Thread nD τ) none Set.univ) (Set.mem_univ _) () (O := owL c l) (W := W) (R := 0) (m := 0) (T := ∅)
      (by rw [Nat.zero_add, hN, hexp])) $$ [Hc HO Hat]
  · isplitr; · iexact HI
    isplitl [Hc]; · rw [hN]; iexact Hc
    isplitl [HO]; · iexact HO
    isplitr; · iapply hw; iexact HL
    iexact Hat
  iintro ⟨HO, Hat, -, Hpay⟩
  imod (Rounds.cell_close ER (sched m ρ) (Set.mem_univ (K (c, some k))) (fun h => h) (R := 0 + 1) (duties_later m ρ _)) $$ [Hat] with Hz
  · isplitr; · iexact HI
    iexact Hat
  iapply Hk
  isplitl [HO]; · iexists _; iexact HO
  isplitl [Hz]; · iexact Hz
  iapply (Entails.of_eq hrest); iexact Hpay

theorem owL_cons (c : Dev nD) (r : Fin 8) (h : Fin 6) (l : List (Fin 8 × Fin 6)) :
    owL c ((r, h) :: l) = owL c l + tallyAt (vCell (tgt r c) r h) () N := rfl
theorem routes_all (c d : Dev nD) : τ.routes (c : Thread nD τ) (d : Thread nD τ) = true := by routes
theorem amount_slR (r : Fin 8) (h : Fin 6) : (slR r h).view.amount (SemLoc.dma (qV r h)) = N := rfl
theorem mem_k (c : Dev nD) (k : Key) : false ∈ (sched m ρ).duties (kcell (c, some k)) 0 := by rw [duties_k]; exact Finset.mem_singleton_self _
theorem pay_send (c : Dev nD) (r : Fin 8) (h : Fin 6) (b : Memref sig .tc .vmem S256x128 .bf16) (q : PosShare TreeShare)
    (eb : pay m ρ c (some (false, r, h)) false = owns (c : Thread nD τ) b q (Sv m ρ h.val c r))
    (fs : Buf (Elt F) (b.view.loc (c : Thread nD τ))) (hfs : b.view.read (Elt F) fs = Sv m ρ h.val c r) :
    (b.view.loc (c : Thread nD τ) ↦[b.view.set]{q} fs : sProp 𝕄) ⊢ (sched m ρ).payload (sCell c r h) 0 false := by
  rw [(payload_k m ρ c (some (false, r, h)) false).trans eb]; unfold owns
  iintro H; iexists fs
  isplitr; · ipureintro; exact hfs
  iexact H
theorem pay_recv (c : Dev nD) (r : Fin 8) (h : Fin 6) (b : Memref sig .tc .vmem S256x128 .bf16)
    (fs : Buf (Elt F) (b.view.loc (c : Thread nD τ))) (fd : Buf (Elt F) ((slR r h).view.loc ((tgt r c : Dev nD) : Thread nD τ)))
    (hfs : b.view.read (Elt F) fs = Sv m ρ h.val c r) :
    ((slR r h).view.loc ((tgt r c : Dev nD) : Thread nD τ) ↦[(slR r h).view.set]{fullShare}
        ((slR r h).view.write (Elt F) fd (b.view.read (Elt F) fs) Finset.univ) : sProp 𝕄)
      ⊢ (sched m ρ).payload (vCell (tgt r c) r h) 0 false := by
  rw [payload_k]
  show _ ⊢ owns _ _ _ (Sv m ρ h.val (src r (tgt r c)) r)
  rw [src_tgt]; unfold owns
  iintro H; iexists ((slR r h).view.write (Elt F) fd (b.view.read (Elt F) fs) Finset.univ)
  isplitr; · ipureintro; exact (View.read_write_univ _ _).trans hfs
  iexact H

/-- Sending hop `h` of ring `r`, on the memory itself. -/
theorem snd_raw (κ₁ κ₂ : ℕ) (c : Dev nD) (r : Fin 8) (h : Fin 6) (b : Memref sig .tc .vmem S256x128 .bf16)
    (hb : b.view.WordExact) (q : PosShare TreeShare)
    (eb : pay m ρ c (some (false, r, h)) false = owns (c : Thread nD τ) b q (Sv m ρ h.val c r)) (O : CellTallies nD τ sig Unit) {α : Type}
    {kk : PUnit → PG F α} {Q : α → sProp 𝕄} (W : Waits sig Unit)
    (fs : Buf (Elt F) (b.view.loc (c : Thread nD τ))) (fd : Buf (Elt F) ((slR r h).view.loc ((tgt r c : Dev nD) : Thread nD τ)))
    (hfs : b.view.read (Elt F) fs = Sv m ρ h.val c r) :
    iprop(cellInv ER (sched m ρ) κ₁ (sCell c r h) ∗ cellInv ER (sched m ρ) κ₂ (vCell (tgt r c) r h)
        ∗ (b.view.loc (c : Thread nD τ) ↦[b.view.set]{q} fs)
        ∗ ((slR r h).view.loc ((tgt r c : Dev nD) : Thread nD τ) ↦[(slR r h).view.set]{fullShare} fd)
        ∗ owes (c : Thread nD τ) (O + tallyAt (vCell (tgt r c) r h) () N) W
        ∗ dutyTok ER (sCell c r h) 0 false ∗ reached ER (sCell c r h) 0
        ∗ dutyTok ER (vCell (tgt r c) r h) 0 false ∗ reached ER (vCell (tgt r c) r h) 0)
      ⊢ iprop(((cred (tallyAt (sCell c r h) () N) ∗ owes (c : Thread nD τ) O W) -∗ Wp c (kk ⟨⟩) Q)
        -∗ Wp c (.op (.enqueueDma b (.remote (Dev.tc (tgt r c) : Thread nD τ) (slR r h) (.dma (qS r h))) (.dma (qV r h)) hb (exR r h)
            ⟨⟨rfl, Or.inl rfl⟩, trivial⟩) kk) Q) := by
  exact Rounds.wp_send_pointsTo 𝒱₀ ER (sched m ρ) (c : Thread nD τ) none (c' := ((tgt r c : Dev nD) : Thread nD τ)) (κ₁ := κ₁) (κ₂ := κ₂)
    (r₁ := 0) (r₂ := 0) (d₁ := false) (d₂ := false) (fd := fd) (fs := fs) (q := q) (mem_k m ρ c (false, r, h)) (mem_k m ρ (tgt r c) (true, r, h))
    () () N (amount_slR r h) (amount_k m ρ c (false, r, h) false) (amount_k m ρ (tgt r c) (true, r, h) false) O rfl (W := W)
    (pay_send m ρ c r h b q eb fs hfs) (pay_recv m ρ c r h b fs fd hfs) (routes_all c (tgt r c))

/-- Sending hop `h` of ring `r` from a block that holds what is to be sent. -/
theorem snd_gen (K : Dev nD × Option Key → ℕ) (c : Dev nD) (r : Fin 8) (h : Fin 6) (b : Memref sig .tc .vmem S256x128 .bf16)
    (hb : b.view.WordExact) (d : Dev nD) (ed : d = tgt r c) (q : PosShare TreeShare)
    (eb : pay m ρ c (some (false, r, h)) false = owns (c : Thread nD τ) b q (Sv m ρ h.val c r)) (l : List (Fin 8 × Fin 6)) {α : Type}
    {kk : PUnit → PG F α} {Q : α → sProp 𝕄} :
    iprop(env m ρ K ∗ ow c (owL c ((r, h) :: l)) ∗ may c h r ∗ owns (c : Thread nD τ) b q (Sv m ρ h.val c r))
      ⊢ iprop((ow c (owL c l) ∗ sent c h r -∗ Wp c (kk ⟨⟩) Q) -∗ Wp c (snd b hb d r h >>= kk) Q) := by
  subst ed
  unfold env ow may free
  iintro ⟨⟨#HR, #HL⟩, ⟨%W, HO⟩, ⟨Ht1, Ht2, %X, Hd⟩, Hs⟩ Hk
  unfold owns
  icases Hs with ⟨%fs, %hfs, Hs⟩
  icases Hd with ⟨%fd, %hfd, Hd⟩
  ihave HI1 := (records_inv m ρ K (c, some (false, r, h))) $$ HR
  ihave HI2 := (records_inv m ρ K (tgt r c, some (true, r, h))) $$ HR
  ihave Hr1 := (records_reached m ρ K (c, some (false, r, h))) $$ HR
  ihave Hr2 := (records_reached m ρ K (tgt r c, some (true, r, h))) $$ HR
  rw [owL_cons]
  iapply (snd_raw m ρ (K (c, some (false, r, h))) (K (tgt r c, some (true, r, h))) c r h b hb q eb (owL c l) W fs fd hfs (kk := kk) (Q := Q))
    $$ [HI1 HI2 Hr1 Hr2 HO Ht1 Ht2 Hs Hd]
  · isplitl [HI1]; · iexact HI1
    isplitl [HI2]; · iexact HI2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [HO]; · iexists _; iexact HO
  unfold sent; iexact Hc

/-! ## Loops over the rings -/

/-- A loop whose step takes `Pre r` to `Post r` and an invariant on the rings left along. -/
theorem forE_list (c : Dev nD) (p : Fin 8 → PG F PUnit) (Pre Post : Fin 8 → sProp 𝕄) (J : List (Fin 8) → sProp 𝕄)
    (step : ∀ (r : Fin 8) (rs : List (Fin 8)) {α : Type} {k : PUnit → PG F α} {Q : α → sProp 𝕄},
      iprop(Pre r ∗ J (r :: rs)) ⊢ iprop((Post r ∗ J rs -∗ Wp c (k ⟨⟩) Q) -∗ Wp c (p r >>= k) Q)) :
    ∀ (l : List (Fin 8)) {α : Type} {k : PUnit → PG F α} {Q : α → sProp 𝕄},
      iprop(bigSepL l Pre ∗ J l) ⊢ iprop((bigSepL l Post ∗ J [] -∗ Wp c (k ⟨⟩) Q) -∗ Wp c (forE p l >>= k) Q)
  | [], α, k, Q => by
    iintro H Hk
    iapply Hk
    icases H with ⟨-, HJ⟩
    isplitr
    · rw [bigSepL_nil]; iempintro
    · iexact HJ
  | r :: rs, α, k, Q => by
    unfold forE
    simp only [Prog.bind_assoc]
    rw [bigSepL_cons', bigSepL_cons']
    iintro ⟨⟨HP, Hl⟩, HJ⟩ Hk
    iapply (step r rs) $$ [HP HJ]
    · isplitl [HP] <;> iassumption
    iintro ⟨HP, HJ⟩
    iapply (forE_list c p Pre Post J step rs) $$ [Hl HJ]
    · isplitl [Hl] <;> iassumption
    iintro ⟨Hl, HJ⟩
    iapply Hk
    isplitl [HP Hl]
    · isplitl [HP] <;> iassumption
    iexact HJ
/-- The same where every step returns a known block. -/
theorem forA_list (c : Dev nD) (p : Fin 8 → PG F (FVec F S256x128 .bf16)) (A : Fin 8 → FVec F S256x128 .bf16)
    (Pre Post : Fin 8 → sProp 𝕄) (J : List (Fin 8) → sProp 𝕄)
    (step : ∀ (r : Fin 8) (rs : List (Fin 8)) {α : Type} {k : FVec F S256x128 .bf16 → PG F α} {Q : α → sProp 𝕄},
      iprop(Pre r ∗ J (r :: rs)) ⊢ iprop((Post r ∗ J rs -∗ Wp c (k (A r)) Q) -∗ Wp c (p r >>= k) Q)) :
    ∀ (l : List (Fin 8)) (f : Fin 8 → FVec F S256x128 .bf16) {α : Type} {k : (Fin 8 → FVec F S256x128 .bf16) → PG F α} {Q : α → sProp 𝕄},
      iprop(bigSepL l Pre ∗ J l)
        ⊢ iprop((bigSepL l Post ∗ J [] -∗ Wp c (k fun i => if i ∈ l then A i else f i) Q) -∗ Wp c (forA p l f >>= k) Q)
  | [], f, α, k, Q => by
    iintro H Hk
    rw [show (fun i => if i ∈ ([] : List (Fin 8)) then A i else f i) = f from funext fun i => if_neg List.not_mem_nil]
    iapply Hk
    icases H with ⟨-, HJ⟩
    isplitr
    · rw [bigSepL_nil]; iempintro
    · iexact HJ
  | r :: rs, f, α, k, Q => by
    unfold forA
    simp only [Prog.bind_assoc]
    rw [bigSepL_cons', bigSepL_cons']
    iintro ⟨⟨HP, Hl⟩, HJ⟩ Hk
    iapply (step r rs) $$ [HP HJ]
    · isplitl [HP] <;> iassumption
    iintro ⟨HP, HJ⟩
    iapply (forA_list c p A Pre Post J step rs) $$ [Hl HJ]
    · isplitl [Hl] <;> iassumption
    iintro ⟨Hl, HJ⟩
    rw [show (fun i => if i ∈ rs then A i else if i = r then A r else f i) = (fun i => if i ∈ r :: rs then A i else f i) from funext fun i => by
      by_cases h₁ : i ∈ rs
      · rw [if_pos h₁, if_pos (List.mem_cons_of_mem _ h₁)]
      · by_cases h₂ : i = r
        · rw [if_neg h₁, if_pos h₂, if_pos (List.mem_cons.mpr (.inl h₂)), h₂]
        · rw [if_neg h₁, if_neg h₂, if_neg fun h => (List.mem_cons.mp h).elim h₂ h₁]]
    iapply Hk
    isplitl [HP Hl]
    · isplitl [HP] <;> iassumption
    iexact HJ

theorem forE_rule (c : Dev nD) (p : Fin 8 → PG F PUnit) (Pre Post : Fin 8 → sProp 𝕄) (J : List (Fin 8) → sProp 𝕄)
    (step : ∀ (r : Fin 8) (rs : List (Fin 8)) {α : Type} {k : PUnit → PG F α} {Q : α → sProp 𝕄},
      iprop(Pre r ∗ J (r :: rs)) ⊢ iprop((Post r ∗ J rs -∗ Wp c (k ⟨⟩) Q) -∗ Wp c (p r >>= k) Q))
    {α : Type} {k : PUnit → PG F α} {Q : α → sProp 𝕄} :
    iprop(bigSep Finset.univ Pre ∗ J rings) ⊢ iprop((bigSep Finset.univ Post ∗ J [] -∗ Wp c (k ⟨⟩) Q) -∗ Wp c (forE p rings >>= k) Q) := by
  rw [bigSep_univ_eq_bigSepL rings (by decide) (by decide), bigSep_univ_eq_bigSepL rings (by decide) (by decide)]
  exact forE_list c p Pre Post J step rings
theorem forA_rule (c : Dev nD) (p : Fin 8 → PG F (FVec F S256x128 .bf16)) (A : Fin 8 → FVec F S256x128 .bf16)
    (Pre Post : Fin 8 → sProp 𝕄) (J : List (Fin 8) → sProp 𝕄)
    (step : ∀ (r : Fin 8) (rs : List (Fin 8)) {α : Type} {k : FVec F S256x128 .bf16 → PG F α} {Q : α → sProp 𝕄},
      iprop(Pre r ∗ J (r :: rs)) ⊢ iprop((Post r ∗ J rs -∗ Wp c (k (A r)) Q) -∗ Wp c (p r >>= k) Q))
    (f : Fin 8 → FVec F S256x128 .bf16) {α : Type} {k : (Fin 8 → FVec F S256x128 .bf16) → PG F α} {Q : α → sProp 𝕄} :
    iprop(bigSep Finset.univ Pre ∗ J rings) ⊢ iprop((bigSep Finset.univ Post ∗ J [] -∗ Wp c (k A) Q) -∗ Wp c (forA p rings f >>= k) Q) := by
  rw [bigSep_univ_eq_bigSepL rings (by decide) (by decide), bigSep_univ_eq_bigSepL rings (by decide) (by decide)]
  have h := forA_list c p A Pre Post J step rings f (k := k) (Q := Q)
  rwa [show (fun i => if i ∈ rings then A i else f i) = A from funext fun i => if_pos (by revert i; decide)] at h

end Cert.KernelIdeal.Own

end
-- ==== Proof.Steps.lean ====
/- The steps of a ring: each of the body's loops, for one ring, with what it needs and what it leaves. -/
module

public import proofs.«01_k».proof.Proof.Comm

@[expose] public section

noncomputable section

namespace Cert.KernelIdeal.Own

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The values along a ring -/

theorem Sv_add (h : ℕ) (hh : h < 3) (c : Dev nD) (r : Fin 8) :
    Sv m ρ (h + 1) c r = accB (Pb m ρ c (bk r (h + 1) c) r) (Sv m ρ h (src r c) r) := if_pos hh
theorem Sv_copy (h : ℕ) (hh : ¬ h < 3) (c : Dev nD) (r : Fin 8) : Sv m ρ (h + 1) c r = Sv m ρ h (src r c) r := if_neg hh
theorem full_bk3 (c : Dev nD) (r : Fin 8) : full m ρ (bk r 3 c) r = Sv m ρ 3 c r := by unfold full; rw [src_bk3]
theorem full_bk1 (c : Dev nD) (r : Fin 8) : Sv m ρ 4 (src r c) r = full m ρ (bk r 1 c) r := Sv_copy m ρ 3 (by decide) _ r
theorem full_bk2 (c : Dev nD) (r : Fin 8) : Sv m ρ 5 (src r c) r = full m ρ (bk r 2 c) r :=
  (Sv_copy m ρ 4 (by decide) _ r).trans (Sv_copy m ρ 3 (by decide) _ r)

/-! ## The transfers of the body -/

/-- What is owed inside the loop that sends hop `h`, the rings `l` still to go. -/
def I (K : Dev nD × Option Key → ℕ) (c : Dev nD) (h : Fin 6) (l : List (Fin 8)) : sProp 𝕄 :=
  iprop(env m ρ K ∗ ow c (owL c (l.map (fun r => (r, h)) ++ pend (5 - h.val))))

theorem mem_pend : ∀ (n : ℕ) (p : Fin 8 × Fin 6), n ≤ 6 → p ∈ pend n → 6 - n ≤ p.2.val
  | 0, p, _, h => absurd h List.not_mem_nil
  | n + 1, p, hn, h => by
    rcases List.mem_append.mp h with h | h
    · obtain ⟨r, -, rfl⟩ := List.mem_map.mp h
      show 6 - (n + 1) ≤ 5 - n
      omega
    · exact le_trans (by omega) (mem_pend n p (by omega) h)
theorem mem_owed (h : Fin 6) (l : List (Fin 8)) (p : Fin 8 × Fin 6) (hp : p ∈ l.map (fun r => (r, h)) ++ pend (5 - h.val)) : h.val ≤ p.2.val := by
  rcases List.mem_append.mp hp with hp | hp
  · obtain ⟨r, -, rfl⟩ := List.mem_map.mp hp
    exact le_refl _
  · have := mem_pend _ p (by omega) hp
    have := h.isLt
    omega

/-- A block of the device's own products, and a block of the result once it is finished. -/
def blk (c q : Dev nD) (r : Fin 8) : sProp 𝕄 := owns (c : Thread nD τ) (mP q r) fullShare (Pb m ρ c q r)
def done (c q : Dev nD) (r : Fin 8) : sProp 𝕄 := owns (c : Thread nD τ) (mO q r) fullShare (wide (full m ρ q r))
/-- The half of a receive slot, holding a finished block, that stays while the block travels on. -/
def half (c : Dev nD) (h : Fin 6) (q : Dev nD) (r : Fin 8) : sProp 𝕄 := owns (c : Thread nD τ) (slR r h) fullShare.left (full m ρ q r)

section Rules

variable (K : Dev nD × Option Key → ℕ) (c : Dev nD)

theorem wtR_rule (r : Fin 8) (h : Fin 6) (b : Memref sig .tc .vmem S256x128 .bf16) (hb : b.view.WordExact) (l : List (Fin 8 × Fin 6))
    (hl : ∀ p ∈ l, h.val < p.2.val) {α : Type} {k : PUnit → PG F α} {Q : α → sProp 𝕄} :
    iprop(env m ρ K ∗ ow c (owL c l) ∗ atV c h r)
      ⊢ iprop((ow c (owL c l) ∗ zV c h r ∗ owns (c : Thread nD τ) (slR r h) fullShare (Sv m ρ h.val (src r c) r) -∗ Wp c (k ⟨⟩) Q)
        -∗ Wp c (wtR b hb r h >>= k) Q) := by
  unfold atV zV
  exact wait_rule m ρ K c (true, r, h) (qV r h) rfl b (slR r h) (amount_slR r h) l (fun p hp => Nat.add_lt_add_right (hl p hp) 2)
theorem wtS_rule (r : Fin 8) (h : Fin 6) (b : Memref sig .tc .vmem S256x128 .bf16) (hb : b.view.WordExact) (hN : b.view.dmaCredit = N)
    (b' : Memref sig .tc .vmem S256x128 .bf16) (q : PosShare TreeShare) (X : Vec F S256x128 .bf16)
    (ep : pay m ρ c (some (false, r, h)) false = owns (c : Thread nD τ) b' q X) (l : List (Fin 8 × Fin 6)) {α : Type} {k : PUnit → PG F α} {Q : α → sProp 𝕄} :
    iprop(env m ρ K ∗ ow c (owL c l) ∗ sent c h r ∗ atS c h r)
      ⊢ iprop((ow c (owL c l) ∗ zS c h r ∗ owns (c : Thread nD τ) b' q X -∗ Wp c (k ⟨⟩) Q)
        -∗ Wp c (wtS b hb r h >>= k) Q) := by
  unfold sent atS zS
  rw [← ep]
  exact wait_rule m ρ K c (false, r, h) (qS r h) rfl (slR r h) b hN l (fun p hp => Nat.succ_pos _)

/-- Sending inside a loop. -/
theorem snd_rule (r : Fin 8) (rs : List (Fin 8)) (h : Fin 6) (b b' : Memref sig .tc .vmem S256x128 .bf16) (hb : b.view.WordExact) (e : b = b')
    (q : PosShare TreeShare) (X : Vec F S256x128 .bf16) (eX : X = Sv m ρ h.val c r)
    (eb : pay m ρ c (some (false, r, h)) false = owns (c : Thread nD τ) b' q (Sv m ρ h.val c r))
    {α : Type} {k : PUnit → PG F α} {Q : α → sProp 𝕄} :
    iprop(env m ρ K ∗ ow c (owL c ((r :: rs).map (fun r => (r, h)) ++ pend (5 - h.val))) ∗ may c h r ∗ owns (c : Thread nD τ) b' q X)
      ⊢ iprop((sent c h r ∗ I m ρ K c h rs -∗ Wp c (k ⟨⟩) Q) -∗ Wp c (snd b hb (dv c h r) r h >>= k) Q) := by
  subst e eX
  unfold I
  iintro ⟨#HE, H⟩ Hk
  iapply (snd_gen m ρ K c r h b hb (dv c h r) (Fin.ext (devT_eq h r c)) q eb (rs.map (fun r => (r, h)) ++ pend (5 - h.val)) (kk := k) (Q := Q)) $$ [H]
  · isplitr; · iexact HE
    iexact H
  iintro ⟨HO, Hs⟩
  iapply Hk
  isplitl [Hs]; · iexact Hs
  isplitr; · iexact HE
  iexact HO

theorem slP_offP (r : Fin 8) : slP (offP r c) (inbP r c) = mP c r := by
  have : ∀ (o o' : Fin 2 → ℕ) (ho ho'), o = o' → slP o ho = slP o' ho' := by intro o o' _ _ e; subst e; rfl
  exact this _ _ _ _ (offP_eq r c)

theorem credit_P (o : Fin 2 → ℕ) (ho) : (slP o ho).view.dmaCredit = N := rfl
theorem credit_S (r : Fin 8) (i : Fin 2) : (slS r i).view.dmaCredit = N := rfl
theorem credit_R (r : Fin 8) (h : Fin 6) : (slR r h).view.dmaCredit = N := rfl

/-! ## The steps -/

variable (r : Fin 8) (rs : List (Fin 8)) {α : Type}

theorem p0_step {k : PUnit → PG F α} {Q : α → sProp 𝕄} :
    iprop((may c 0 r ∗ blk m ρ c c r) ∗ I m ρ K c 0 (r :: rs))
      ⊢ iprop((sent c 0 r ∗ I m ρ K c 0 rs -∗ Wp c (k ⟨⟩) Q) -∗ Wp c (p0 c r >>= k) Q) := by
  unfold p0 I blk
  iintro ⟨⟨Hm, Hb⟩, #HE, HO⟩ Hk
  iapply (snd_rule m ρ K c r rs 0 _ _ (exP r c) (slP_offP c r) fullShare (Pb m ρ c c r) rfl rfl (k := k) (Q := Q)) $$ [Hm Hb HO]
  · isplitr; · iexact HE
    isplitl [HO]; · iexact HO
    isplitl [Hm]; · iexact Hm
    iexact Hb
  iexact Hk

theorem p1_step {k : PUnit → PG F α} {Q : α → sProp 𝕄} :
    iprop((atV c 0 r ∗ blk m ρ c (bk r 1 c) r ∗ free c (slS r 1) ∗ may c 1 r) ∗ I m ρ K c 1 (r :: rs))
      ⊢ iprop(((zV c 0 r ∗ free c (slR r 0) ∗ blk m ρ c (bk r 1 c) r ∗ sent c 1 r) ∗ I m ρ K c 1 rs -∗ Wp c (k ⟨⟩) Q)
        -∗ Wp c (p1 c r >>= k) Q) := by
  unfold p1 blk
  simp only [Prog.bind_assoc]
  iintro ⟨⟨Ha, Hb, Hf, Hm⟩, HI⟩ Hk
  unfold I
  icases HI with ⟨#HE, HO⟩
  iapply (wtR_rule m ρ K c r 0 _ _ _ (fun p hp => mem_owed 1 (r :: rs) p hp)) $$ [Ha HO]
  · isplitr; · iexact HE
    isplitl [HO] <;> iassumption
  iintro ⟨HO, Hz, Hr⟩
  iapply (ldP_rule c _ _ (bk r 1 c) r (offA_eq r c 0)) $$ Hb
  iintro Hb
  iapply (ldR_rule c r 0) $$ Hr
  iintro Hr
  rw [accv_toSlot]
  iapply (stS_rule c r 1) $$ Hf
  iintro Hf
  iapply (snd_rule m ρ K c r rs 1 _ _ (exS r 1) rfl fullShare _ (Sv_add m ρ 0 (by decide) c r).symm rfl) $$ [Hm Hf HO]
  · isplitr; · iexact HE
    isplitl [HO]; · iexact HO
    isplitl [Hm]; · iexact Hm
    iexact Hf
  iintro ⟨Hs, HI⟩
  iapply Hk
  isplitr [HI]
  · isplitl [Hz]; · iexact Hz
    isplitl [Hr]; · iapply (free_intro c (slR r 0)); iexact Hr
    isplitl [Hb]; · iexact Hb
    iexact Hs
  · unfold I; iexact HI

theorem p2_step {k : PUnit → PG F α} {Q : α → sProp 𝕄} :
    iprop((atV c 1 r ∗ blk m ρ c (bk r 2 c) r ∗ sent c 0 r ∗ atS c 0 r ∗ free c (slS r 0) ∗ may c 2 r) ∗ I m ρ K c 2 (r :: rs))
      ⊢ iprop(((zV c 1 r ∗ free c (slR r 1) ∗ blk m ρ c (bk r 2 c) r ∗ zS c 0 r ∗ blk m ρ c c r ∗ sent c 2 r) ∗ I m ρ K c 2 rs
          -∗ Wp c (k ⟨⟩) Q) -∗ Wp c (p2 c r >>= k) Q) := by
  unfold p2 blk
  simp only [Prog.bind_assoc]
  iintro ⟨⟨Ha, Hb, Hw, Hat, Hf, Hm⟩, HI⟩ Hk
  unfold I
  icases HI with ⟨#HE, HO⟩
  iapply (wtR_rule m ρ K c r 1 _ _ _ (fun p hp => mem_owed 2 (r :: rs) p hp)) $$ [Ha HO]
  · isplitr; · iexact HE
    isplitl [HO] <;> iassumption
  iintro ⟨HO, Hz, Hr⟩
  iapply (ldP_rule c _ _ (bk r 2 c) r (offA_eq r c 1)) $$ Hb
  iintro Hb
  iapply (ldR_rule c r 1) $$ Hr
  iintro Hr
  iapply (wtS_rule m ρ K c r 0 _ _ (credit_P _ (inbP r c)) (mP c r) fullShare (Pb m ρ c c r) rfl) $$ [Hw Hat HO]
  · isplitr; · iexact HE
    isplitl [HO]; · iexact HO
    isplitl [Hw] <;> iassumption
  iintro ⟨HO, Hzs, Hc⟩
  rw [accv_toSlot]
  iapply (stS_rule c r 0) $$ Hf
  iintro Hf
  iapply (snd_rule m ρ K c r rs 2 _ _ (exS r 0) rfl fullShare _ (Sv_add m ρ 1 (by decide) c r).symm rfl) $$ [Hm Hf HO]
  · isplitr; · iexact HE
    isplitl [HO]; · iexact HO
    isplitl [Hm]; · iexact Hm
    iexact Hf
  iintro ⟨Hs, HI⟩
  iapply Hk
  isplitr [HI]
  · isplitl [Hz]; · iexact Hz
    isplitl [Hr]; · iapply (free_intro c (slR r 1)); iexact Hr
    isplitl [Hb]; · iexact Hb
    isplitl [Hzs]; · iexact Hzs
    isplitl [Hc]; · iexact Hc
    iexact Hs
  · unfold I; iexact HI

theorem p3_step {k : FVec F S256x128 .bf16 → PG F α} {Q : α → sProp 𝕄} :
    iprop((atV c 2 r ∗ blk m ρ c (bk r 3 c) r ∗ sent c 1 r ∗ atS c 1 r ∗ may c 3 r) ∗ I m ρ K c 3 (r :: rs))
      ⊢ iprop(((zV c 2 r ∗ free c (slR r 2) ∗ blk m ρ c (bk r 3 c) r ∗ zS c 1 r ∗ sent c 3 r) ∗ I m ρ K c 3 rs
          -∗ Wp c (k (full m ρ (bk r 3 c) r)) Q) -∗ Wp c (p3 c r >>= k) Q) := by
  unfold p3 blk
  simp only [Prog.bind_assoc, Prog.pure_eq_ret, Prog.bind_ret]
  iintro ⟨⟨Ha, Hb, Hw, Hat, Hm⟩, HI⟩ Hk
  unfold I
  icases HI with ⟨#HE, HO⟩
  iapply (wtR_rule m ρ K c r 2 _ _ _ (fun p hp => mem_owed 3 (r :: rs) p hp)) $$ [Ha HO]
  · isplitr; · iexact HE
    isplitl [HO] <;> iassumption
  iintro ⟨HO, Hz, Hr⟩
  iapply (ldP_rule c _ _ (bk r 3 c) r (offA_eq r c 2)) $$ Hb
  iintro Hb
  iapply (ldR_rule c r 2) $$ Hr
  iintro Hr
  iapply (wtS_rule m ρ K c r 1 _ _ (credit_S r 1) (slS r 1) fullShare (Sv m ρ 1 c r) rfl) $$ [Hw Hat HO]
  · isplitr; · iexact HE
    isplitl [HO]; · iexact HO
    isplitl [Hw] <;> iassumption
  iintro ⟨HO, Hzs, Hf⟩
  rw [accv_toSlot]
  iapply (stS_rule c r 1) $$ [Hf]
  · iapply (free_intro c (slS r 1)); iexact Hf
  iintro Hf
  iapply (snd_rule m ρ K c r rs 3 _ _ (exS r 1) rfl fullShare _ (Sv_add m ρ 2 (by decide) c r).symm rfl) $$ [Hm Hf HO]
  · isplitr; · iexact HE
    isplitl [HO]; · iexact HO
    isplitl [Hm]; · iexact Hm
    iexact Hf
  iintro ⟨Hs, HI⟩
  rw [show accB (Pb m ρ c (bk r 3 c) r) (Sv m ρ (2 : Fin 6).val (src r c) r) = full m ρ (bk r 3 c) r from
    (Sv_add m ρ 2 (by decide) c r).symm.trans (full_bk3 m ρ c r).symm]
  iapply Hk
  isplitr [HI]
  · isplitl [Hz]; · iexact Hz
    isplitl [Hr]; · iapply (free_intro c (slR r 2)); iexact Hr
    isplitl [Hb]; · iexact Hb
    isplitl [Hzs]; · iexact Hzs
    iexact Hs
  · unfold I; iexact HI

/-- A received block on its way on: half of the slot goes with the transfer, half stays. -/
theorem pass_step (h : Fin 6) (h' : Fin 6) (b : Memref sig .tc .vmem S256x128 .bf16) (hb : b.view.WordExact) (hh : h'.val = h.val + 1) (h3 : ¬ h.val < 3)
    (q : Dev nD) (hq : Sv m ρ h.val (src r c) r = full m ρ q r)
    (ep : pay m ρ c (some (false, r, h')) false = owns (c : Thread nD τ) (slR r h) fullShare.right (Sv m ρ h'.val c r))
    {k : PUnit → PG F α} {Q : α → sProp 𝕄} :
    iprop((atV c h r ∗ may c h' r) ∗ I m ρ K c h' (r :: rs))
      ⊢ iprop(((zV c h r ∗ half m ρ c h q r ∗ sent c h' r) ∗ I m ρ K c h' rs -∗ Wp c (k ⟨⟩) Q)
        -∗ Wp c ((do wtR b hb r h; snd (slR r h) (exR r h) (dv c h' r) r h') >>= k) Q) := by
  unfold half
  simp only [Prog.bind_assoc]
  iintro ⟨⟨Ha, Hm⟩, HI⟩ Hk
  unfold I
  icases HI with ⟨#HE, HO⟩
  iapply (wtR_rule m ρ K c r h _ _ _ (fun p hp => lt_of_lt_of_le (by omega) (mem_owed h' (r :: rs) p hp))) $$ [Ha HO]
  · isplitr; · iexact HE
    isplitl [HO] <;> iassumption
  iintro ⟨HO, Hz, Hr⟩
  ihave Hr2 := (owns_halves (c : Thread nD τ) (slR r h) fullShare (Sv m ρ h.val (src r c) r)).1 $$ Hr
  icases Hr2 with ⟨Hl, Hr⟩
  iapply (snd_rule m ρ K c r rs h' _ _ (exR r h) rfl fullShare.right (Sv m ρ h.val (src r c) r)
    (by rw [hh]; exact (Sv_copy m ρ h.val h3 c r).symm) ep) $$ [Hm Hr HO]
  · isplitr; · iexact HE
    isplitl [HO]; · iexact HO
    isplitl [Hm]; · iexact Hm
    iexact Hr
  iintro ⟨Hs, HI⟩
  iapply Hk
  isplitr [HI]
  · isplitl [Hz]; · iexact Hz
    isplitl [Hl]; · rw [← hq]; iexact Hl
    iexact Hs
  · unfold I; iexact HI

theorem p4_step {k : PUnit → PG F α} {Q : α → sProp 𝕄} :
    iprop((atV c 3 r ∗ may c 4 r) ∗ I m ρ K c 4 (r :: rs))
      ⊢ iprop(((zV c 3 r ∗ half m ρ c 3 c r ∗ sent c 4 r) ∗ I m ρ K c 4 rs -∗ Wp c (k ⟨⟩) Q) -∗ Wp c (p4 c r >>= k) Q) :=
  pass_step m ρ K c r rs 3 4 _ _ rfl (by decide) c rfl rfl
theorem p5_step {k : PUnit → PG F α} {Q : α → sProp 𝕄} :
    iprop((atV c 4 r ∗ may c 5 r) ∗ I m ρ K c 5 (r :: rs))
      ⊢ iprop(((zV c 4 r ∗ half m ρ c 4 (bk r 1 c) r ∗ sent c 5 r) ∗ I m ρ K c 5 rs -∗ Wp c (k ⟨⟩) Q) -∗ Wp c (p5 c r >>= k) Q) :=
  pass_step m ρ K c r rs 4 5 _ _ rfl (by decide) (bk r 1 c) (full_bk1 m ρ c r) rfl

/-- The stores of finished blocks. -/
theorem o3_step (f : Fin 8 → FVec F S256x128 .bf16) (hf : f r = full m ρ (bk r 3 c) r) {k : PUnit → PG F α} {Q : α → sProp 𝕄} :
    iprop(free c (mO (bk r 3 c) r) ∗ emp) ⊢ iprop((done m ρ c (bk r 3 c) r ∗ emp -∗ Wp c (k ⟨⟩) Q) -∗ Wp c (o3 c f r >>= k) Q) := by
  unfold o3 done
  rw [hf]
  iintro ⟨Hf, -⟩ Hk
  iapply (stO_rule c _ _ (bk r 3 c) r (offA_eq r c 2)) $$ Hf
  iintro Hf
  iapply Hk
  isplitl [Hf]; · iexact Hf
  iempintro
theorem keep_step (h : Fin 6) (q : Dev nD) (o : Fin 2 → ℕ) (ho) (e : o = oB q r) {k : PUnit → PG F α} {Q : α → sProp 𝕄} :
    iprop((half m ρ c h q r ∗ free c (mO q r)) ∗ emp)
      ⊢ iprop(((half m ρ c h q r ∗ done m ρ c q r) ∗ emp -∗ Wp c (k ⟨⟩) Q)
        -∗ Wp c ((do let w ← ldR r h; stO o ho (wideSlot w)) >>= k) Q) := by
  unfold half done
  simp only [Prog.bind_assoc]
  iintro ⟨⟨Hr, Hf⟩, -⟩ Hk
  iapply (ldR_rule c r h) $$ Hr
  iintro Hr
  rw [wideSlot_toSlot]
  iapply (stO_rule c _ _ q r e) $$ Hf
  iintro Hf
  iapply Hk
  isplitl [Hr Hf]
  · isplitl [Hr] <;> iassumption
  iempintro
theorem o4_step {k : PUnit → PG F α} {Q : α → sProp 𝕄} :
    iprop((half m ρ c 3 c r ∗ free c (mO c r)) ∗ emp)
      ⊢ iprop(((half m ρ c 3 c r ∗ done m ρ c c r) ∗ emp -∗ Wp c (k ⟨⟩) Q) -∗ Wp c (o4 c r >>= k) Q) :=
  keep_step m ρ c r 3 c _ _ (offO_eq r c)
theorem o5_step {k : PUnit → PG F α} {Q : α → sProp 𝕄} :
    iprop((half m ρ c 4 (bk r 1 c) r ∗ free c (mO (bk r 1 c) r)) ∗ emp)
      ⊢ iprop(((half m ρ c 4 (bk r 1 c) r ∗ done m ρ c (bk r 1 c) r) ∗ emp -∗ Wp c (k ⟨⟩) Q) -∗ Wp c (o5 c r >>= k) Q) :=
  keep_step m ρ c r 4 (bk r 1 c) _ _ (offA_eq r c 0)

/-- What is left once nothing is owed: every wait is allowed. -/
def I₀ : sProp 𝕄 := iprop(env m ρ K ∗ ow c (owL c []))

theorem o6_step {k : PUnit → PG F α} {Q : α → sProp 𝕄} :
    iprop((atV c 5 r ∗ free c (mO (bk r 2 c) r)) ∗ I₀ m ρ K c)
      ⊢ iprop(((zV c 5 r ∗ free c (slR r 5) ∗ done m ρ c (bk r 2 c) r) ∗ I₀ m ρ K c -∗ Wp c (k ⟨⟩) Q) -∗ Wp c (o6 c r >>= k) Q) := by
  unfold o6 done I₀
  simp only [Prog.bind_assoc]
  iintro ⟨⟨Ha, Hf⟩, #HE, HO⟩ Hk
  iapply (wtR_rule m ρ K c r 5 _ _ [] (fun p hp => absurd hp List.not_mem_nil)) $$ [Ha HO]
  · isplitr; · iexact HE
    isplitl [HO] <;> iassumption
  iintro ⟨HO, Hz, Hr⟩
  iapply (ldR_rule c r 5) $$ Hr
  iintro Hr
  rw [wideSlot_toSlot, show Sv m ρ (5 : Fin 6).val (src r c) r = full m ρ (bk r 2 c) r from full_bk2 m ρ c r]
  iapply (stO_rule c _ _ (bk r 2 c) r (offA_eq r c 1)) $$ Hf
  iintro Hf
  iapply Hk
  isplitr [HO]
  · isplitl [Hz]; · iexact Hz
    isplitl [Hr]; · iapply (free_intro c (slR r 5)); iexact Hr
    iexact Hf
  · isplitr; · iexact HE
    iexact HO

/-- The last waits: every block sent is free again, and the halves of the receive slots are whole. -/
theorem p7_step {k : PUnit → PG F α} {Q : α → sProp 𝕄} :
    iprop((sent c 2 r ∗ atS c 2 r ∗ sent c 3 r ∗ atS c 3 r ∗ sent c 4 r ∗ atS c 4 r ∗ sent c 5 r ∗ atS c 5 r
          ∗ half m ρ c 3 c r ∗ half m ρ c 4 (bk r 1 c) r) ∗ I₀ m ρ K c)
      ⊢ iprop(((zS c 2 r ∗ zS c 3 r ∗ zS c 4 r ∗ zS c 5 r ∗ free c (slS r 0) ∗ free c (slS r 1) ∗ free c (slR r 3) ∗ free c (slR r 4))
            ∗ I₀ m ρ K c -∗ Wp c (k ⟨⟩) Q)
        -∗ Wp c (p7 r >>= k) Q) := by
  have e4 : pay m ρ c (some (false, r, 4)) false = owns (c : Thread nD τ) (slR r 3) fullShare.right (full m ρ c r) := by
    show owns _ _ _ (Sv m ρ 4 c r) = _; rw [Sv_copy m ρ 3 (by decide)]; rfl
  have e5 : pay m ρ c (some (false, r, 5)) false = owns (c : Thread nD τ) (slR r 4) fullShare.right (full m ρ (bk r 1 c) r) := by
    show owns _ _ _ (Sv m ρ 5 c r) = _; rw [Sv_copy m ρ 4 (by decide), full_bk1]; rfl
  unfold p7 half I₀
  simp only [Prog.bind_assoc]
  iintro ⟨⟨Hw2, Ha2, Hw3, Ha3, Hw4, Ha4, Hw5, Ha5, H3, H4⟩, #HE, HO⟩ Hk
  iapply (wtS_rule m ρ K c r 2 _ _ (credit_S r 0) (slS r 0) fullShare (Sv m ρ 2 c r) rfl) $$ [Hw2 Ha2 HO]
  · isplitr; · iexact HE
    isplitl [HO]; · iexact HO
    isplitl [Hw2] <;> iassumption
  iintro ⟨HO, Hz2, HS0⟩
  iapply (wtS_rule m ρ K c r 3 _ _ (credit_S r 1) (slS r 1) fullShare (Sv m ρ 3 c r) rfl) $$ [Hw3 Ha3 HO]
  · isplitr; · iexact HE
    isplitl [HO]; · iexact HO
    isplitl [Hw3] <;> iassumption
  iintro ⟨HO, Hz3, HS1⟩
  iapply (wtS_rule m ρ K c r 4 _ _ (credit_R r 3) _ _ _ e4) $$ [Hw4 Ha4 HO]
  · isplitr; · iexact HE
    isplitl [HO]; · iexact HO
    isplitl [Hw4] <;> iassumption
  iintro ⟨HO, Hz4, HR3⟩
  iapply (wtS_rule m ρ K c r 5 _ _ (credit_R r 4) _ _ _ e5) $$ [Hw5 Ha5 HO]
  · isplitr; · iexact HE
    isplitl [HO]; · iexact HO
    isplitl [Hw5] <;> iassumption
  iintro ⟨HO, Hz5, HR4⟩
  iapply Hk
  isplitr [HO]
  · isplitl [Hz2]; · iexact Hz2
    isplitl [Hz3]; · iexact Hz3
    isplitl [Hz4]; · iexact Hz4
    isplitl [Hz5]; · iexact Hz5
    isplitl [HS0]; · iapply (free_intro c (slS r 0)); iexact HS0
    isplitl [HS1]; · iapply (free_intro c (slS r 1)); iexact HS1
    isplitl [H3 HR3]
    · iapply (free_intro c (slR r 3) (full m ρ c r))
      iapply (owns_halves (c : Thread nD τ) (slR r 3) fullShare (full m ρ c r)).2
      isplitl [H3] <;> iassumption
    iapply (free_intro c (slR r 4) (full m ρ (bk r 1 c) r))
    iapply (owns_halves (c : Thread nD τ) (slR r 4) fullShare (full m ρ (bk r 1 c) r)).2
    isplitl [H4] <;> iassumption
  · isplitr; · iexact HE
    iexact HO

end Rules

end Cert.KernelIdeal.Own

end
-- ==== Proof.Mem.lean ====
/- The buffers taken apart into their blocks and put together again, and families of blocks regrouped. -/
module

public import proofs.«01_k».proof.Proof.Steps

@[expose] public section

noncomputable section

namespace Cert.KernelIdeal.Own

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

instance elt_nonempty (e : EltTy) : Nonempty (Elt F e) := by
  cases e
  all_goals first | exact ⟨(0 : BitVec _)⟩ | exact ⟨FloatOps.ofBits _ 0⟩

/-! ## Any buffer and rectangles that tile it -/

section Tile

variable {T : Type} [Fintype T] [DecidableEq T] (c : Dev nD) {s : Shape} {e : EltTy} (b : Memref sig .tc .vmem s e)
  (r : T → Rect s) (hr : ∀ t a, (r t).stride a = 1)
  (hd : ∀ t ∈ (Finset.univ : Finset T), ∀ t' ∈ (Finset.univ : Finset T), t ≠ t' → Disjoint (r t).set (r t').set)
  (hc : Finset.univ.biUnion (fun t => (r t).set) = Finset.univ)

/-- One array of which every rectangle shows the array given for it, and `d` elsewhere. -/
def tile {A : Type} (d : A) (X : (t : T) → (r t).shape.Idx → A) (i : s.Idx) : A :=
  open Classical in if h : ∃ p : (t : T) × (r t).shape.Idx, (r p.1).emb p.2 = i then X h.choose.1 h.choose.2 else d
include hd in
theorem tile_emb {A : Type} (d : A) (X : (t : T) → (r t).shape.Idx → A) (t : T) (j : (r t).shape.Idx) : tile r d X ((r t).emb j) = X t j := by
  have h : ∃ p : (t : T) × (r t).shape.Idx, (r p.1).emb p.2 = (r t).emb j := ⟨⟨t, j⟩, rfl⟩
  unfold tile
  rw [dif_pos h]
  have hs := h.choose_spec
  revert hs
  generalize h.choose = p
  obtain ⟨t', j'⟩ := p
  intro hs
  have ht : t' = t := by
    by_contra hne
    have h1 := emb_mem (r t') j'
    exact Finset.disjoint_left.mp (hd t' (Finset.mem_univ _) t (Finset.mem_univ _) hne) h1 (by rw [hs]; exact emb_mem (r t) j)
  subst ht
  exact congrArg (X t') ((r t').emb.injective hs)

include hd hc in
theorem free_split : free (F := F) c b ⊢ (bigSep Finset.univ fun t => free c (b.slice (r t) (hr t)) : sProp 𝕄) := by
  refine free_elim c b fun X => ?_
  refine (owns_rects (c : Thread nD τ) b fullShare r hr (fun t t' h => hd t (Finset.mem_univ _) t' (Finset.mem_univ _) h) hc X).trans ?_
  exact bigSep_mono fun t _ => free_intro c _ _
include hd hc in
theorem owns_join (d : Elt F e) (X : (t : T) → (r t).shape.Idx → Elt F e) :
    (bigSep Finset.univ fun t => owns (c : Thread nD τ) (b.slice (r t) (hr t)) fullShare (X t) : sProp 𝕄)
      ⊢ owns (c : Thread nD τ) b fullShare (tile r d X) := by
  refine BI.Entails.trans ?_ (owns_of_rects (c : Thread nD τ) b fullShare r hr (fun t t' h => hd t (Finset.mem_univ _) t' (Finset.mem_univ _) h) hc (tile r d X))
  refine bigSep_mono fun t _ => ?_
  rw [show X t = fun j => tile r d X ((r t).emb j) from funext fun j => (tile_emb r hd d X t j).symm]
  exact BI.Entails.refl _
include hd hc in
theorem free_join : (bigSep Finset.univ fun t => free c (b.slice (r t) (hr t)) : sProp 𝕄) ⊢ free c b := by
  unfold free
  refine (bigSep_exists_pi Finset.univ fun t X => owns (c : Thread nD τ) (b.slice (r t) (hr t)) fullShare X).trans ?_
  iintro ⟨%X, H⟩
  iexists (tile r (Classical.choice (elt_nonempty e)) X)
  iapply (owns_join c b r hr hd hc (Classical.choice (elt_nonempty e)) X)
  iexact H

end Tile

/-- A slot and the slot squeezed. -/
theorem free_squeeze (c : Dev nD) (b : Memref sig .tc .vmem S1x1x256x128 .bf16) :
    (free c (b.squeeze S256x128 squeezes_S1x1x256x128_S256x128) : sProp 𝕄) = free (F := F) c b := by
  refine BI.equiv_iff.mp ⟨?_, ?_⟩
  · refine free_elim c _ fun X => ?_
    rw [owns_squeeze]; exact free_intro c b _
  · refine free_elim c _ fun Y => ?_
    have h : toSlot (fun j => Y (Shape.reshapeEquiv squeezes_S1x1x256x128_S256x128.numel_eq j)) = Y := by
      funext j
      show Y (Shape.reshapeEquiv _ (Shape.reshapeEquiv _ j)) = Y j
      rw [reshape_twice]
    rw [← h, ← owns_squeeze]
    exact free_intro c _ _

/-! ## The kernel's buffers -/

section Buffers

variable (c : Dev nD)

/-- A buffer held whole at contents of no interest. -/
abbrev any (b : Ref sig .tc) : sProp 𝕄 := iprop(∃ f : Buf (Elt F) ((c : Thread nD τ).loc b), ((c : Thread nD τ).loc b) ↦{fullShare} f)

theorem any_rows : (any c cc0_scratch0 : sProp 𝕄) = free (F := F) c aP := by
  unfold free any; simp only [owns_whole]
  rfl
theorem any_send : (any c cc0_scratch1 : sProp 𝕄) = free (F := F) c aS := by
  unfold free any; simp only [owns_whole]
  rfl
theorem any_recv : (any c cc0_scratch2 : sProp 𝕄) = free (F := F) c aR := by
  unfold free any; simp only [owns_whole]
  rfl

theorem rows_split : (any c cc0_scratch0 : sProp 𝕄) ⊢ (bigSep Finset.univ fun q : Dev nD => free (F := F) c (mRow q) : sProp 𝕄) := by
  rw [any_rows]
  exact free_split c aP rP (fun _ _ => rfl) rP_disj rP_cover
theorem rows_join : (bigSep Finset.univ fun q : Dev nD => bigSep Finset.univ fun r : Fin 8 => free (F := F) c (mP q r) : sProp 𝕄) ⊢ any c cc0_scratch0 := by
  rw [any_rows, ← bigSep_univ_prod (fun p : Dev nD × Fin 8 => free (F := F) c (mP p.1 p.2))]
  exact free_join c aP (fun p : Dev nD × Fin 8 => rB p.1 p.2) (fun _ _ => rfl) rB_disj rB_cover
theorem out_split :
    free c aO ⊢ (bigSep Finset.univ fun q : Dev nD => bigSep Finset.univ fun r : Fin 8 => free (F := F) c (mO q r) : sProp 𝕄) := by
  rw [← bigSep_univ_prod (fun p : Dev nD × Fin 8 => free (F := F) c (mO p.1 p.2))]
  exact free_split c aO (fun p : Dev nD × Fin 8 => rB p.1 p.2) (fun _ _ => rfl) rB_disj rB_cover
/-- The whole result: every block of rows and every ring's columns hold the finished block. -/
def outT : Vec F S1024x1024 .f32 := tile (fun p : Dev nD × Fin 8 => rB p.1 p.2) (FloatOps.ofBits .f32 0) fun p => wide (full m ρ p.1 p.2)
theorem outT_emb (q : Dev nD) (r : Fin 8) (j : S256x128.Idx) : outT m ρ ((rB q r).emb j) = wide (full m ρ q r) j :=
  tile_emb (fun p : Dev nD × Fin 8 => rB p.1 p.2) rB_disj _ (fun p => wide (full m ρ p.1 p.2)) (q, r) j
theorem out_join : (bigSep Finset.univ fun q : Dev nD => bigSep Finset.univ fun r : Fin 8 => done m ρ c q r : sProp 𝕄)
    ⊢ owns (c : Thread nD τ) aO fullShare (outT m ρ) := by
  rw [← bigSep_univ_prod (fun p : Dev nD × Fin 8 => done m ρ c p.1 p.2)]
  exact owns_join c aO (fun p : Dev nD × Fin 8 => rB p.1 p.2) (fun _ _ => rfl) rB_disj rB_cover _ fun p => wide (full m ρ p.1 p.2)
theorem sendSlots : (any c cc0_scratch1 : sProp 𝕄) ⊣⊢
    iprop((bigSep Finset.univ fun r : Fin 8 => free (F := F) c (slS r 0)) ∗ bigSep Finset.univ fun r : Fin 8 => free (F := F) c (slS r 1)) := by
  have e : (bigSep Finset.univ fun p : Fin 8 × Fin 2 => free (F := F) c (aS.slice (rS p.1 p.2) (fun _ => rfl)) : sProp 𝕄)
      = iprop((bigSep Finset.univ fun r : Fin 8 => free (F := F) c (slS r 0)) ∗ bigSep Finset.univ fun r : Fin 8 => free (F := F) c (slS r 1)) := by
    rw [bigSep_univ_prod, bigSep_univ_comm, bigSep_univ_eq_bigSepL [0, 1] (by decide) (by decide), bigSepL_cons_cons, bigSepL_singleton]
    simp only [free_squeeze]
    rfl
  rw [any_send, ← e]
  exact ⟨free_split c aS (fun p : Fin 8 × Fin 2 => rS p.1 p.2) (fun _ _ => rfl) rS_disj rS_cover,
    free_join c aS (fun p : Fin 8 × Fin 2 => rS p.1 p.2) (fun _ _ => rfl) rS_disj rS_cover⟩
theorem recvSlots : (any c cc0_scratch2 : sProp 𝕄) ⊣⊢
    bigSep Finset.univ fun r : Fin 8 => bigSep Finset.univ fun h : Fin 6 => free (F := F) c (slR r h) := by
  have e : (bigSep Finset.univ fun p : Fin 8 × Fin 6 => free (F := F) c (aR.slice (rR p.1 p.2) (fun _ => rfl)) : sProp 𝕄)
      = bigSep Finset.univ fun r : Fin 8 => bigSep Finset.univ fun h : Fin 6 => free (F := F) c (slR r h) := by
    rw [bigSep_univ_prod]
    simp only [free_squeeze]
  rw [any_recv, ← e]
  exact ⟨free_split c aR (fun p : Fin 8 × Fin 6 => rR p.1 p.2) (fun _ _ => rfl) rR_disj rR_cover,
    free_join c aR (fun p : Fin 8 × Fin 6 => rR p.1 p.2) (fun _ _ => rfl) rR_disj rR_cover⟩

/-- A block of rows of the products, cut into the rings' columns. -/
theorem row_blocks (q : Dev nD) : owns (c : Thread nD τ) (mRow q) fullShare (dq m ρ c q) ⊢ (bigSep Finset.univ fun r : Fin 8 => blk m ρ c q r : sProp 𝕄) := by
  have hs : (mRow q).view.set = (Finset.univ : Finset (Fin 8)).biUnion fun r => (mP q r).view.set := by
    rw [show (mRow q).view.set = (rP q).set from View.set_slice_whole cc0_scratch0 (rP q), ← rB_row]
    exact Finset.biUnion_congr rfl fun r _ => (View.set_slice_whole cc0_scratch0 (rB q r)).symm
  have hd : ∀ r ∈ (Finset.univ : Finset (Fin 8)), ∀ r' ∈ (Finset.univ : Finset (Fin 8)), r ≠ r' → Disjoint (mP q r).view.set (mP q r').view.set := by
    intro r _ r' _ h
    rw [show (mP q r).view.set = (rB q r).set from View.set_slice_whole cc0_scratch0 (rB q r),
      show (mP q r').view.set = (rB q r').set from View.set_slice_whole cc0_scratch0 (rB q r')]
    exact rB_disj (q, r) (Finset.mem_univ _) (q, r') (Finset.mem_univ _) (fun e => h (congrArg Prod.snd e))
  unfold blk
  rw [show (owns (c : Thread nD τ) (mRow q) fullShare (dq m ρ c q) : sProp 𝕄)
    = iprop(∃ f, ⌜(mRow q).view.read (Elt F) f = dq m ρ c q⌝ ∗ ((mRow q).view.loc (c : Thread nD τ) ↦[(mRow q).view.set]{fullShare} f)) from rfl]
  iintro ⟨%f, %hf, H⟩
  rw [hs, pointsTo_biUnion _ _ hd]
  have h : (bigSep Finset.univ fun r : Fin 8 => ((mRow q).view.loc (c : Thread nD τ) ↦[(mP q r).view.set]{fullShare} f) : sProp 𝕄)
      ⊢ bigSep Finset.univ fun r : Fin 8 => owns (c : Thread nD τ) (mP q r) fullShare (Pb m ρ c q r) := by
    refine bigSep_mono fun r _ => ?_
    rw [show Pb m ρ c q r = (mP q r).view.read (Elt F) f from by
      unfold Pb; rw [← hf]; funext j
      show f _ = f _
      congr 1
      funext a
      fin_cases a
      · rfl
      · exact Fin.ext (show 0 + 1 * (128 * cb r + (j 1).val) = 128 * cb r + 1 * (j 1).val by omega)]
    exact owns_intro (c : Thread nD τ) (mP q r) fullShare f
  exact h

end Buffers

end Cert.KernelIdeal.Own

end
-- ==== Proof.Loops.lean ====
/- The loops of the body over all rings, one after the other, and the families of assertions they pass on. -/
module

public import proofs.«01_k».proof.Proof.Mem

@[expose] public section

noncomputable section

namespace Cert.KernelIdeal.Own

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Families over the rings -/

/-- One assertion for each ring, -/
abbrev all (X : Fin 8 → sProp 𝕄) : sProp 𝕄 := bigSep Finset.univ X
/-- for each ring and hop, -/
def six (X : Fin 6 → Fin 8 → sProp 𝕄) : sProp 𝕄 :=
  iprop(all (X 0) ∗ all (X 1) ∗ all (X 2) ∗ all (X 3) ∗ all (X 4) ∗ all (X 5))
/-- for each ring and block of rows, the blocks taken in the ring's order, beginning at `c`. -/
def four (c : Dev nD) (G : Dev nD → Fin 8 → sProp 𝕄) : sProp 𝕄 :=
  iprop(all (G c) ∗ all (fun r => G (bk r 1 c) r) ∗ all (fun r => G (bk r 2 c) r) ∗ all (fun r => G (bk r 3 c) r))

theorem six_eq (X : Fin 6 → Fin 8 → sProp 𝕄) : (bigSep Finset.univ fun h : Fin 6 => bigSep Finset.univ fun r : Fin 8 => X h r) = six X := by
  rw [bigSep_univ_eq_bigSepL [0, 1, 2, 3, 4, 5] (by decide) (by decide)]
  simp only [bigSepL_cons_cons, bigSepL_singleton]
  rfl
theorem six_comm (X : Fin 6 → Fin 8 → sProp 𝕄) : (bigSep Finset.univ fun r : Fin 8 => bigSep Finset.univ fun h : Fin 6 => X h r) = six X := by
  rw [bigSep_univ_comm, six_eq]
theorem six_sep (X Y : Fin 6 → Fin 8 → sProp 𝕄) : iprop(six X ∗ six Y) = six fun h r => iprop(X h r ∗ Y h r) := by
  rw [← six_eq, ← six_eq, ← six_eq, ← bigSep_sep']
  simp only [← bigSep_sep']

theorem bk_list : ∀ (r : Fin 8) (c : Dev nD), (Finset.univ : Finset (Dev nD)) = [c, bk r 1 c, bk r 2 c, bk r 3 c].toFinset ∧ [c, bk r 1 c, bk r 2 c, bk r 3 c].Nodup := by decide
theorem four_eq (c : Dev nD) (G : Dev nD → Fin 8 → sProp 𝕄) : (bigSep Finset.univ fun q : Dev nD => bigSep Finset.univ fun r : Fin 8 => G q r) = four c G := by
  rw [bigSep_univ_comm, bigSep_congr fun r _ => bigSep_univ_eq_bigSepL _ (bk_list r c).1 (bk_list r c).2 (fun q => G q r)]
  simp only [bigSepL_cons_cons, bigSepL_singleton]
  show bigSep _ (fun r => iprop(_ ∗ _ ∗ _ ∗ _)) = _
  simp only [bigSep_sep']
  rfl

theorem four_mono (c : Dev nD) (G G' : Dev nD → Fin 8 → sProp 𝕄) (h : ∀ q r, G q r ⊢ G' q r) : four c G ⊢ four c G' := by
  rw [← four_eq, ← four_eq]
  exact bigSep_mono fun q _ => bigSep_mono fun r _ => h q r

theorem rows_list : ∀ c : Dev nD, (Finset.univ : Finset (Dev nD)) = [c, rw_ 1 c, rw_ 2 c, rw_ 3 c].toFinset ∧ [c, rw_ 1 c, rw_ 2 c, rw_ 3 c].Nodup := by decide
/-- One assertion for each block of rows. -/
theorem rows_eq (c : Dev nD) (G : Dev nD → sProp 𝕄) : bigSep Finset.univ G = iprop(G c ∗ G (rw_ 1 c) ∗ G (rw_ 2 c) ∗ G (rw_ 3 c)) := by
  rw [bigSep_univ_eq_bigSepL _ (rows_list c).1 (rows_list c).2]
  rfl

theorem others_list : ∀ (r : Fin 8) (c : Dev nD), [rw_ 1 c, rw_ 2 c, rw_ 3 c].toFinset = [bk r 1 c, bk r 2 c, bk r 3 c].toFinset
    ∧ [rw_ 1 c, rw_ 2 c, rw_ 3 c].Nodup ∧ [bk r 1 c, bk r 2 c, bk r 3 c].Nodup := by decide
/-- The other devices' blocks of rows, in the order of the computation and in each ring's order. -/
theorem others (c : Dev nD) (G : Dev nD → Fin 8 → sProp 𝕄) :
    iprop(all (G (rw_ 1 c)) ∗ all (G (rw_ 2 c)) ∗ all (G (rw_ 3 c)))
      = iprop(all (fun r => G (bk r 1 c) r) ∗ all (fun r => G (bk r 2 c) r) ∗ all (fun r => G (bk r 3 c) r)) := by
  have h : ∀ r, iprop(G (rw_ 1 c) r ∗ G (rw_ 2 c) r ∗ G (rw_ 3 c) r) = iprop(G (bk r 1 c) r ∗ G (bk r 2 c) r ∗ G (bk r 3 c) r) := fun r =>
    (bigSep_eq_bigSepL_of_eq _ rfl (others_list r c).2.1 (fun q => G q r)).symm.trans
      (bigSep_eq_bigSepL_of_eq _ (others_list r c).1 (others_list r c).2.2 (fun q => G q r))
  rw [← bigSep_sep', ← bigSep_sep', ← bigSep_sep', ← bigSep_sep', bigSep_congr fun r _ => h r]

/-! ## The loops -/

section Loops

variable (K : Dev nD × Option Key → ℕ) (c : Dev nD) {α : Type}

theorem I_next0 : I m ρ K c 0 [] = I m ρ K c 1 rings := rfl
theorem I_next1 : I m ρ K c 1 [] = I m ρ K c 2 rings := rfl
theorem I_next2 : I m ρ K c 2 [] = I m ρ K c 3 rings := rfl
theorem I_next3 : I m ρ K c 3 [] = I m ρ K c 4 rings := rfl
theorem I_next4 : I m ρ K c 4 [] = I m ρ K c 5 rings := rfl
theorem I_next5 : I m ρ K c 5 [] = I₀ m ρ K c := rfl

theorem p0_all {k : PUnit → PG F α} {Q : α → sProp 𝕄} :
    iprop((all (may c 0) ∗ all (blk m ρ c c)) ∗ I m ρ K c 0 rings)
      ⊢ iprop((all (sent c 0) ∗ I m ρ K c 1 rings -∗ Wp c (k ⟨⟩) Q) -∗ Wp c (forE (p0 c) rings >>= k) Q) := by
  have h := forE_rule c (p0 c) _ _ (I m ρ K c 0) (fun r rs _ _ _ => p0_step m ρ K c r rs) (k := k) (Q := Q)
  simp only [bigSep_sep'] at h
  exact h
theorem p1_all {k : PUnit → PG F α} {Q : α → sProp 𝕄} :
    iprop((all (atV c 0) ∗ all (fun r => blk m ρ c (bk r 1 c) r) ∗ all (fun r => free c (slS r 1)) ∗ all (may c 1)) ∗ I m ρ K c 1 rings)
      ⊢ iprop(((all (zV c 0) ∗ all (fun r => free c (slR r 0)) ∗ all (fun r => blk m ρ c (bk r 1 c) r) ∗ all (sent c 1)) ∗ I m ρ K c 2 rings
          -∗ Wp c (k ⟨⟩) Q) -∗ Wp c (forE (p1 c) rings >>= k) Q) := by
  have h := forE_rule c (p1 c) _ _ (I m ρ K c 1) (fun r rs _ _ _ => p1_step m ρ K c r rs) (k := k) (Q := Q)
  simp only [bigSep_sep'] at h
  exact h
theorem p2_all {k : PUnit → PG F α} {Q : α → sProp 𝕄} :
    iprop((all (atV c 1) ∗ all (fun r => blk m ρ c (bk r 2 c) r) ∗ all (sent c 0) ∗ all (atS c 0) ∗ all (fun r => free c (slS r 0)) ∗ all (may c 2))
        ∗ I m ρ K c 2 rings)
      ⊢ iprop(((all (zV c 1) ∗ all (fun r => free c (slR r 1)) ∗ all (fun r => blk m ρ c (bk r 2 c) r) ∗ all (zS c 0) ∗ all (blk m ρ c c) ∗ all (sent c 2))
          ∗ I m ρ K c 3 rings -∗ Wp c (k ⟨⟩) Q) -∗ Wp c (forE (p2 c) rings >>= k) Q) := by
  have h := forE_rule c (p2 c) _ _ (I m ρ K c 2) (fun r rs _ _ _ => p2_step m ρ K c r rs) (k := k) (Q := Q)
  simp only [bigSep_sep'] at h
  exact h
theorem p3_all (f : Fin 8 → FVec F S256x128 .bf16) {k : (Fin 8 → FVec F S256x128 .bf16) → PG F α} {Q : α → sProp 𝕄} :
    iprop((all (atV c 2) ∗ all (fun r => blk m ρ c (bk r 3 c) r) ∗ all (sent c 1) ∗ all (atS c 1) ∗ all (may c 3)) ∗ I m ρ K c 3 rings)
      ⊢ iprop(((all (zV c 2) ∗ all (fun r => free c (slR r 2)) ∗ all (fun r => blk m ρ c (bk r 3 c) r) ∗ all (zS c 1) ∗ all (sent c 3))
          ∗ I m ρ K c 4 rings -∗ Wp c (k fun r => full m ρ (bk r 3 c) r) Q) -∗ Wp c (forA (p3 c) rings f >>= k) Q) := by
  have h := forA_rule c (p3 c) (fun r => full m ρ (bk r 3 c) r) _ _ (I m ρ K c 3) (fun r rs _ _ _ => p3_step m ρ K c r rs) f (k := k) (Q := Q)
  simp only [bigSep_sep'] at h
  exact h
theorem o3_all {k : PUnit → PG F α} {Q : α → sProp 𝕄} :
    iprop(all (fun r => free c (mO (bk r 3 c) r)) ∗ emp)
      ⊢ iprop((all (fun r => done m ρ c (bk r 3 c) r) ∗ emp -∗ Wp c (k ⟨⟩) Q) -∗ Wp c (forE (o3 c fun r => full m ρ (bk r 3 c) r) rings >>= k) Q) :=
  forE_rule c _ _ _ (fun _ => iprop(emp)) (fun r rs _ _ _ => o3_step m ρ c r _ rfl)
theorem p4_all {k : PUnit → PG F α} {Q : α → sProp 𝕄} :
    iprop((all (atV c 3) ∗ all (may c 4)) ∗ I m ρ K c 4 rings)
      ⊢ iprop(((all (zV c 3) ∗ all (half m ρ c 3 c) ∗ all (sent c 4)) ∗ I m ρ K c 5 rings -∗ Wp c (k ⟨⟩) Q)
          -∗ Wp c (forE (p4 c) rings >>= k) Q) := by
  have h := forE_rule c (p4 c) _ _ (I m ρ K c 4) (fun r rs _ _ _ => p4_step m ρ K c r rs) (k := k) (Q := Q)
  simp only [bigSep_sep'] at h
  exact h
theorem o4_all {k : PUnit → PG F α} {Q : α → sProp 𝕄} :
    iprop((all (half m ρ c 3 c) ∗ all (fun r => free c (mO c r))) ∗ emp)
      ⊢ iprop(((all (half m ρ c 3 c) ∗ all (done m ρ c c)) ∗ emp -∗ Wp c (k ⟨⟩) Q) -∗ Wp c (forE (o4 c) rings >>= k) Q) := by
  have h := forE_rule c (o4 c) _ _ (fun _ => iprop(emp)) (fun r rs _ _ _ => o4_step m ρ c r) (k := k) (Q := Q)
  simp only [bigSep_sep'] at h
  exact h
theorem p5_all {k : PUnit → PG F α} {Q : α → sProp 𝕄} :
    iprop((all (atV c 4) ∗ all (may c 5)) ∗ I m ρ K c 5 rings)
      ⊢ iprop(((all (zV c 4) ∗ all (fun r => half m ρ c 4 (bk r 1 c) r) ∗ all (sent c 5)) ∗ I₀ m ρ K c -∗ Wp c (k ⟨⟩) Q)
          -∗ Wp c (forE (p5 c) rings >>= k) Q) := by
  have h := forE_rule c (p5 c) _ _ (I m ρ K c 5) (fun r rs _ _ _ => p5_step m ρ K c r rs) (k := k) (Q := Q)
  simp only [bigSep_sep'] at h
  exact h
theorem o5_all {k : PUnit → PG F α} {Q : α → sProp 𝕄} :
    iprop((all (fun r => half m ρ c 4 (bk r 1 c) r) ∗ all (fun r => free c (mO (bk r 1 c) r))) ∗ emp)
      ⊢ iprop(((all (fun r => half m ρ c 4 (bk r 1 c) r) ∗ all (fun r => done m ρ c (bk r 1 c) r)) ∗ emp -∗ Wp c (k ⟨⟩) Q)
          -∗ Wp c (forE (o5 c) rings >>= k) Q) := by
  have h := forE_rule c (o5 c) _ _ (fun _ => iprop(emp)) (fun r rs _ _ _ => o5_step m ρ c r) (k := k) (Q := Q)
  simp only [bigSep_sep'] at h
  exact h
theorem o6_all {k : PUnit → PG F α} {Q : α → sProp 𝕄} :
    iprop((all (atV c 5) ∗ all (fun r => free c (mO (bk r 2 c) r))) ∗ I₀ m ρ K c)
      ⊢ iprop(((all (zV c 5) ∗ all (fun r => free c (slR r 5)) ∗ all (fun r => done m ρ c (bk r 2 c) r)) ∗ I₀ m ρ K c -∗ Wp c (k ⟨⟩) Q)
          -∗ Wp c (forE (o6 c) rings >>= k) Q) := by
  have h := forE_rule c (o6 c) _ _ (fun _ => I₀ m ρ K c) (fun r rs _ _ _ => o6_step m ρ K c r) (k := k) (Q := Q)
  simp only [bigSep_sep'] at h
  exact h
theorem p7_all {k : PUnit → PG F α} {Q : α → sProp 𝕄} :
    iprop((all (sent c 2) ∗ all (atS c 2) ∗ all (sent c 3) ∗ all (atS c 3) ∗ all (sent c 4) ∗ all (atS c 4) ∗ all (sent c 5) ∗ all (atS c 5)
          ∗ all (half m ρ c 3 c) ∗ all (fun r => half m ρ c 4 (bk r 1 c) r)) ∗ I₀ m ρ K c)
      ⊢ iprop(((all (zS c 2) ∗ all (zS c 3) ∗ all (zS c 4) ∗ all (zS c 5) ∗ all (fun r => free c (slS r 0)) ∗ all (fun r => free c (slS r 1))
            ∗ all (fun r => free c (slR r 3)) ∗ all (fun r => free c (slR r 4))) ∗ I₀ m ρ K c -∗ Wp c (k ⟨⟩) Q)
          -∗ Wp c (forE p7 rings >>= k) Q) := by
  have h := forE_rule c p7 _ _ (fun _ => I₀ m ρ K c) (fun r rs _ _ _ => p7_step m ρ K c r) (k := k) (Q := Q)
  simp only [bigSep_sep'] at h
  exact h

end Loops

end Cert.KernelIdeal.Own

end
-- ==== Proof.Body.lean ====
/- The whole body of one device: signals and barrier, the products, the loops. -/
module

public import proofs.«01_k».proof.Proof.Loops

@[expose] public section

noncomputable section

namespace Cert.KernelIdeal.Own

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Option Key → ℕ) (c : Dev nD) {α : Type}

/-- The staged blocks of the arguments. -/
abbrev stX : sProp 𝕄 := ((c : Thread nD τ).loc cc0_stg0_0) ↦{fullShare} xstg m ρ c
abbrev stW : sProp 𝕄 := ((c : Thread nD τ).loc cc0_stg1_0) ↦{fullShare} wstg m ρ c

/-! ## Products -/

/-- A product for the rows of another device is computed and stored. -/
theorem pd_rule (j : Fin 3) (q : Dev nD) (hq : rw_ (j.val + 1) c = q) {k : PUnit → PG F α} {Q : α → sProp 𝕄} :
    iprop(stX m ρ c ∗ free c (mRow q))
      ⊢ iprop((stX m ρ c ∗ all (blk m ρ c q) -∗ Wp c (k ⟨⟩) Q) -∗ Wp c (pd c (wv m ρ c) j >>= k) Q) := by
  subst hq
  unfold pd
  simp only [Prog.bind_assoc]
  iintro ⟨Hx, Hf⟩ Hk
  iapply (ldX_rule m ρ c _ _ _ (off11_eq c j)) $$ Hx
  iintro Hx
  iapply (stP_rule c _ _ _ _ (off12_eq c j)) $$ Hf
  iintro Hf
  iapply Hk
  isplitl [Hx]; · iexact Hx
  iapply (row_blocks m ρ c)
  iexact Hf

/-! ## The loops, one after the other -/

/-- The part of the body after the barrier. -/
def tailP (w : FVec F S256x1024 .bf16) : PG F PUnit := do
  forE (p0 c) rings
  pd c w 0
  pd c w 1
  pd c w 2
  forE (p1 c) rings
  forE (p2 c) rings
  let f ← forA (p3 c) rings (fun _ => constant S256x128 .bf16 0x0000#16)
  forE (o3 c f) rings
  forE (p4 c) rings
  forE (o4 c) rings
  forE (p5 c) rings
  forE (o5 c) rings
  forE (o6 c) rings
  forE p7 rings >>= pure

theorem tail_run {Q : PUnit → sProp 𝕄} :
    iprop(I m ρ K c 0 rings ∗ stX m ρ c ∗ six (may c) ∗ six (atV c) ∗ six (atS c) ∗ all (blk m ρ c c)
        ∗ free c (mRow (rw_ 1 c)) ∗ free c (mRow (rw_ 2 c)) ∗ free c (mRow (rw_ 3 c))
        ∗ all (fun r => free c (slS r 0)) ∗ all (fun r => free c (slS r 1)) ∗ four c (fun q r => free c (mO q r)))
      ⊢ iprop((I₀ m ρ K c ∗ stX m ρ c ∗ six (zV c) ∗ six (zS c) ∗ six (fun h r => free c (slR r h))
          ∗ all (fun r => free c (slS r 0)) ∗ all (fun r => free c (slS r 1)) ∗ four c (blk m ρ c) ∗ four c (done m ρ c) -∗ Q ⟨⟩)
        -∗ Wp c (tailP c (wv m ρ c)) Q) := by
  unfold tailP six four
  iintro ⟨HI, Hx, ⟨M0, M1, M2, M3, M4, M5⟩, ⟨V0, V1, V2, V3, V4, V5⟩, ⟨S0, S1, S2, S3, S4, S5⟩, B0, R1, R2, R3, E0, E1, O0, O1, O2, O3⟩ Hk
  iapply (p0_all m ρ K c) $$ [M0 B0 HI]
  · isplitr [HI]
    · isplitl [M0] <;> iassumption
    iexact HI
  iintro ⟨W0, HI⟩
  iapply (pd_rule m ρ c 0 (rw_ 1 c) rfl) $$ [Hx R1]
  · isplitl [Hx] <;> iassumption
  iintro ⟨Hx, R1⟩
  iapply (pd_rule m ρ c 1 (rw_ 2 c) rfl) $$ [Hx R2]
  · isplitl [Hx] <;> iassumption
  iintro ⟨Hx, R2⟩
  iapply (pd_rule m ρ c 2 (rw_ 3 c) rfl) $$ [Hx R3]
  · isplitl [Hx] <;> iassumption
  iintro ⟨Hx, R3⟩
  ihave HB := (Entails.of_eq (others c (blk m ρ c))) $$ [R1 R2 R3]
  · isplitl [R1]; · iexact R1
    isplitl [R2] <;> iassumption
  icases HB with ⟨B1, B2, B3⟩
  iapply (p1_all m ρ K c) $$ [V0 B1 E1 M1 HI]
  · isplitr [HI]
    · isplitl [V0]; · iexact V0
      isplitl [B1]; · iexact B1
      isplitl [E1] <;> iassumption
    iexact HI
  iintro ⟨⟨V0, F0, B1, W1⟩, HI⟩
  iapply (p2_all m ρ K c) $$ [V1 B2 W0 S0 E0 M2 HI]
  · isplitr [HI]
    · isplitl [V1]; · iexact V1
      isplitl [B2]; · iexact B2
      isplitl [W0]; · iexact W0
      isplitl [S0]; · iexact S0
      isplitl [E0] <;> iassumption
    iexact HI
  iintro ⟨⟨V1, F1, B2, S0, B0, W2⟩, HI⟩
  iapply (p3_all m ρ K c) $$ [V2 B3 W1 S1 M3 HI]
  · isplitr [HI]
    · isplitl [V2]; · iexact V2
      isplitl [B3]; · iexact B3
      isplitl [W1]; · iexact W1
      isplitl [S1] <;> iassumption
    iexact HI
  iintro ⟨⟨V2, F2, B3, S1, W3⟩, HI⟩
  iapply (o3_all m ρ c) $$ [O3]
  · isplitl [O3]; · iexact O3
    iempintro
  iintro ⟨O3, -⟩
  iapply (p4_all m ρ K c) $$ [V3 M4 HI]
  · isplitr [HI]
    · isplitl [V3] <;> iassumption
    iexact HI
  iintro ⟨⟨V3, H3, W4⟩, HI⟩
  iapply (o4_all m ρ c) $$ [H3 O0]
  · isplitl [H3 O0]
    · isplitl [H3] <;> iassumption
    iempintro
  iintro ⟨⟨H3, O0⟩, -⟩
  iapply (p5_all m ρ K c) $$ [V4 M5 HI]
  · isplitr [HI]
    · isplitl [V4] <;> iassumption
    iexact HI
  iintro ⟨⟨V4, H4, W5⟩, HI⟩
  iapply (o5_all m ρ c) $$ [H4 O1]
  · isplitl [H4 O1]
    · isplitl [H4] <;> iassumption
    iempintro
  iintro ⟨⟨H4, O1⟩, -⟩
  iapply (o6_all m ρ K c) $$ [V5 O2 HI]
  · isplitr [HI]
    · isplitl [V5] <;> iassumption
    iexact HI
  iintro ⟨⟨V5, F5, O2⟩, HI⟩
  iapply (p7_all m ρ K c) $$ [W2 S2 W3 S3 W4 S4 W5 S5 H3 H4 HI]
  · isplitr [HI]
    · isplitl [W2]; · iexact W2
      isplitl [S2]; · iexact S2
      isplitl [W3]; · iexact W3
      isplitl [S3]; · iexact S3
      isplitl [W4]; · iexact W4
      isplitl [S4]; · iexact S4
      isplitl [W5]; · iexact W5
      isplitl [S5]; · iexact S5
      isplitl [H3] <;> iassumption
    iexact HI
  iintro ⟨⟨S2, S3, S4, S5, E0, E1, F3, F4⟩, HI⟩
  simp only [Prog.pure_eq_ret, wp_ret]
  imodintro
  iapply Hk
  isplitl [HI]; · iexact HI
  isplitl [Hx]; · iexact Hx
  isplitl [V0 V1 V2 V3 V4 V5]
  · isplitl [V0]; · iexact V0
    isplitl [V1]; · iexact V1
    isplitl [V2]; · iexact V2
    isplitl [V3]; · iexact V3
    isplitl [V4] <;> iassumption
  isplitl [S0 S1 S2 S3 S4 S5]
  · isplitl [S0]; · iexact S0
    isplitl [S1]; · iexact S1
    isplitl [S2]; · iexact S2
    isplitl [S3]; · iexact S3
    isplitl [S4] <;> iassumption
  isplitl [F0 F1 F2 F3 F4 F5]
  · isplitl [F0]; · iexact F0
    isplitl [F1]; · iexact F1
    isplitl [F2]; · iexact F2
    isplitl [F3]; · iexact F3
    isplitl [F4] <;> iassumption
  isplitl [E0]; · iexact E0
  isplitl [E1]; · iexact E1
  isplitl [B0 B1 B2 B3]
  · isplitl [B0]; · iexact B0
    isplitl [B1]; · iexact B1
    isplitl [B2] <;> iassumption
  isplitl [O0]; · iexact O0
  isplitl [O1]; · iexact O1
  isplitl [O2] <;> iassumption

/-! ## The barrier -/

theorem sgn_rule (d : Dev nD) (b : Bool) (O : CellTallies nD τ sig Unit) {k : PUnit → PG F α} {Q : α → sProp 𝕄} :
    iprop(env m ρ K ∗ ow c (O + tallyAt (bCell d) () 1) ∗ dutyTok ER (bCell d) 0 b ∗ pay m ρ d none b)
      ⊢ iprop((ow c O -∗ Wp c (k ⟨⟩) Q) -∗ Wp c (sgn d >>= k) Q) := by
  unfold sgn
  simp only [semSignalWord, Prog.lift, Prog.bind_op, Prog.bind_ret, Prog.pure_eq_ret, Prog.bind_assoc]
  unfold env ow
  iintro ⟨⟨#HR, #HL⟩, ⟨%W, HO⟩, Ht, Hp⟩ Hk
  ihave HI := (records_inv m ρ K (d, none)) $$ HR
  ihave Hr := (records_reached m ρ K (d, none)) $$ HR
  iapply (Rounds.wp_signal 𝒱₀ ER (sched m ρ) (c : Thread nD τ) none (dst := (d : Thread nD τ)) (κ := K (d, none)) (d := b)
      (by rw [duties_b]; exact Finset.mem_univ _) ((amount_b m ρ d b).trans (by decide)) () O rfl) $$ [HO Ht Hp]
  · isplitr; · iexact HI
    isplitl [HO]; · iexact HO
    isplitl [Ht]; · iexact Ht
    isplitl [Hp]; · iapply (Entails.of_eq (payload_k m ρ d none b).symm); iexact Hp
    iexact Hr
  iintro HO
  iapply Hk
  iexists _; iexact HO
theorem barW_rule {k : PUnit → PG F α} {Q : α → sProp 𝕄} :
    iprop(env m ρ K ∗ ow c (owL c (pend 6)) ∗ cred (tallyAt (bCell c) () 2) ∗ atPos ER (bCell c) 0 ∅ 0)
      ⊢ iprop((ow c (owL c (pend 6)) ∗ semVal (bCell c) 0
            ∗ (bigSep Finset.univ fun r : Fin 8 => bigSep (Finset.univ : Finset (Fin 6)) fun h => free (F := F) (tgt r c) (slR r h)) -∗ Wp c (k ⟨⟩) Q)
        -∗ Wp c (barW >>= k) Q) := by
  unfold barW
  simp only [semWaitWord, Prog.lift, Prog.bind_op, Prog.bind_ret, Prog.pure_eq_ret, Prog.bind_assoc]
  have hw : (levAts L lv : sProp 𝕄) ⊢ MayWait (c : Thread nD τ) (.reg qB) () (owL c (pend 6)) :=
    mayWait_list (F := F) c none (pend 6) (fun p _ => Nat.lt_of_lt_of_le (by decide : lvK none < 2) (Nat.le_add_left _ _))
  unfold env ow
  iintro ⟨⟨#HR, #HL⟩, ⟨%W, HO⟩, Hc, Hat⟩ Hk
  ihave HI := (records_inv m ρ K (c, none)) $$ HR
  iapply (Rounds.wp_wait_rest_token 𝒱₀ ER (sched m ρ) (c : Thread nD τ) none (κ := K (c, none))
      (wpE_semWait_eq 𝒱₀ (c : Thread nD τ) none Set.univ) (Set.mem_univ _) () (O := owL c (pend 6)) (W := W) (R := 0) (m := 0) (T := ∅)
      (by rw [expect_b]; decide)) $$ [Hc HO Hat]
  · isplitr; · iexact HI
    isplitl [Hc]; · iexact Hc
    isplitl [HO]; · iexact HO
    isplitr; · iapply hw; iexact HL
    iexact Hat
  iintro ⟨HO, Hat, -, Hpay⟩
  imod (Rounds.cell_close ER (sched m ρ) (Set.mem_univ (K (c, none))) (fun h => h) (R := 0 + 1) (duties_later m ρ _)) $$ [Hat] with Hz
  · isplitr; · iexact HI
    iexact Hat
  iapply Hk
  isplitl [HO]; · iexists _; iexact HO
  isplitl [Hz]; · iexact Hz
  iapply (Entails.of_eq (rest_b m ρ c)); iexact Hpay

theorem tgt_back : ∀ (c : Dev nD) (r : Fin 8), (r ∈ dirs true → tgt r (prv c) = c) ∧ (r ∈ dirs false → tgt r (nxt c) = c) := by decide
/-- A device's receive slots are what its two signals hand over. -/
theorem slots_give : (bigSep Finset.univ fun r : Fin 8 => bigSep Finset.univ fun h : Fin 6 => free (F := F) c (slR r h) : sProp 𝕄)
    = iprop(pay m ρ (prv c) none true ∗ pay m ρ (nxt c) none false) := by
  rw [bigSep_filter_split Finset.univ (fun r : Fin 8 => r.val % 2 = 0)]
  show iprop(bigSep (dirs true) _ ∗ bigSep (dirs false) _) = _
  have e : ∀ b, (∀ r ∈ dirs b, tgt r (if b then prv c else nxt c) = c) →
      (bigSep (dirs b) fun r : Fin 8 => bigSep Finset.univ fun h : Fin 6 => free (F := F) c (slR r h) : sProp 𝕄) = pay m ρ (if b then prv c else nxt c) none b :=
    fun b hb => bigSep_congr fun r hr => by rw [hb r hr]
  rw [e true fun r => (tgt_back c r).1, e false fun r => (tgt_back c r).2]
  rfl

/-! ## The body -/

/-- The right to send, but for the place it lands at. -/
def tok (h : Fin 6) (r : Fin 8) : sProp 𝕄 := iprop(dutyTok ER (sCell c r h) 0 false ∗ dutyTok ER (vCell (tgt r c) r h) 0 false)
theorem tok_one (h : Fin 6) (r : Fin 8) : iprop(tok c h r ∗ free (F := F) (tgt r c) (slR r h)) ⊢ (may c h r : sProp 𝕄) := by
  unfold tok may
  iintro ⟨⟨Ha, Hb⟩, Hc⟩
  isplitl [Ha]; · iexact Ha
  isplitl [Hb] <;> iassumption
theorem tok_may : iprop(six (tok c) ∗ bigSep Finset.univ fun r : Fin 8 => bigSep (Finset.univ : Finset (Fin 6)) fun h => free (F := F) (tgt r c) (slR r h))
    ⊢ (six (may c) : sProp 𝕄) := by
  rw [six_comm (fun h r => free (F := F) (tgt r c) (slR r h)), six_sep]
  rw [← six_eq, ← six_eq]
  exact bigSep_mono fun h _ => bigSep_mono fun r _ => tok_one c h r

/-- What a device starts the protocol with, beyond the records: its tokens, credits and positions. -/
def ghost : sProp 𝕄 :=
  iprop(dutyTok ER (bCell (prv c)) 0 true ∗ dutyTok ER (bCell (nxt c)) 0 false ∗ atPos ER (bCell c) 0 ∅ 0 ∗ cred (tallyAt (bCell c) () 2)
    ∗ six (tok c) ∗ six (atV c) ∗ six (atS c))
/-- And what it ends with: every semaphore at zero. -/
def zeros : sProp 𝕄 := iprop(six (zV c) ∗ six (zS c) ∗ semVal (bCell c) 0)

theorem body_run {Q : PUnit → sProp 𝕄} :
    iprop(env m ρ K ∗ ow c (O₀ c) ∗ stX m ρ c ∗ stW m ρ c ∗ free c aO ∗ any c cc0_scratch0 ∗ any c cc0_scratch1 ∗ any c cc0_scratch2 ∗ ghost c)
      ⊢ iprop((ow c (owL c []) ∗ stX m ρ c ∗ stW m ρ c ∗ owns (c : Thread nD τ) aO fullShare (outT m ρ)
          ∗ any c cc0_scratch0 ∗ any c cc0_scratch1 ∗ any c cc0_scratch2 ∗ zeros c -∗ Q ⟨⟩)
        -∗ Wp c (gbody c) Q) := by
  have eg : gbody (F := F) c = (do
      sgn ⟨k0_dev1 c, k0_dev1_lt c⟩
      sgn ⟨k0_dev2 c, k0_dev2_lt c⟩
      let w ← ldW
      let x ← ldX (k0_off1 c) (k0_off1_inb c)
      stP (k0_off2 c) (k0_off2_inb c) (k0_off2_packedbf16 c) (dotv w x)
      barW
      tailP c w) := by
    unfold gbody tailP
    simp only [Prog.bind_pure]
  rw [eg, show (⟨k0_dev1 c, k0_dev1_lt c⟩ : Dev nD) = prv c from Fin.ext (dev1_eq c), show (⟨k0_dev2 c, k0_dev2_lt c⟩ : Dev nD) = nxt c from Fin.ext (dev2_eq c)]
  unfold O₀ O₁ ghost zeros
  iintro ⟨#HE, HO, Hx, Hw, Hout, Hrows, Hsend, Hrecv, Tp, Tn, Hat, Hc, HT, HV, HS⟩ Hk
  ihave HG := (recvSlots c).1 $$ Hrecv
  ihave HG := (Entails.of_eq (slots_give m ρ c)) $$ HG
  icases HG with ⟨Gp, Gn⟩
  iapply (sgn_rule m ρ K c (prv c) true) $$ [HO Tp Gp]
  · isplitr; · iexact HE
    isplitl [HO]; · iexact HO
    isplitl [Tp] <;> iassumption
  iintro HO
  iapply (sgn_rule m ρ K c (nxt c) false) $$ [HO Tn Gn]
  · isplitr; · iexact HE
    isplitl [HO]; · iexact HO
    isplitl [Tn] <;> iassumption
  iintro HO
  iapply (ldW_rule m ρ c) $$ Hw
  iintro Hw
  iapply (ldX_rule m ρ c _ _ c (off1_eq c)) $$ Hx
  iintro Hx
  ihave HR := (rows_split c) $$ Hrows
  ihave HR := (Entails.of_eq (rows_eq c (fun q => free (F := F) c (mRow q)))) $$ HR
  icases HR with ⟨R0, R1, R2, R3⟩
  iapply (stP_rule c _ _ _ c (off2_eq c) (dq m ρ c c)) $$ R0
  iintro R0
  ihave B0 := (row_blocks m ρ c c) $$ R0
  iapply (barW_rule m ρ K c) $$ [HO Hc Hat]
  · isplitr; · iexact HE
    isplitl [HO]; · iexact HO
    isplitl [Hc] <;> iassumption
  iintro ⟨HO, Hz, HF⟩
  ihave HM := (tok_may c) $$ [HT HF]
  · isplitl [HT] <;> iassumption
  ihave HO4 := (out_split c) $$ Hout
  ihave HO4 := (Entails.of_eq (four_eq c (fun q r => free (F := F) c (mO q r)))) $$ HO4
  ihave HS2 := (sendSlots c).1 $$ Hsend
  icases HS2 with ⟨E0, E1⟩
  iapply (tail_run m ρ K c) $$ [HO Hx HM HV HS B0 R1 R2 R3 E0 E1 HO4]
  · isplitl [HO]
    · unfold I
      isplitr; · iexact HE
      iexact HO
    isplitl [Hx]; · iexact Hx
    isplitl [HM]; · iexact HM
    isplitl [HV]; · iexact HV
    isplitl [HS]; · iexact HS
    isplitl [B0]; · iexact B0
    isplitl [R1]; · iexact R1
    isplitl [R2]; · iexact R2
    isplitl [R3]; · iexact R3
    isplitl [E0]; · iexact E0
    isplitl [E1] <;> iassumption
  iintro ⟨HI, Hx, ZV, ZS, HF, E0, E1, HB, HD⟩
  iapply Hk
  unfold I₀
  icases HI with ⟨-, HO⟩
  isplitl [HO]; · iexact HO
  isplitl [Hx]; · iexact Hx
  isplitl [Hw]; · iexact Hw
  isplitl [HD]
  · iapply (out_join m ρ c)
    iapply (Entails.of_eq (four_eq c (done m ρ c)).symm)
    iexact HD
  isplitl [HB]
  · iapply (rows_join c)
    iapply (Entails.of_eq (four_eq c (fun q r => free (F := F) c (mP q r))).symm)
    iapply (four_mono c (blk m ρ c) (fun q r => free (F := F) c (mP q r)) (fun q r => free_intro c (mP q r) _))
    iexact HB
  isplitl [E0 E1]
  · iapply (sendSlots c).2
    isplitl [E0] <;> iassumption
  isplitl [HF]
  · iapply (recvSlots c).2
    iapply (Entails.of_eq (six_comm (fun h r => free (F := F) c (slR r h))).symm)
    iexact HF
  isplitl [ZV]; · iexact ZV
  isplitl [ZS] <;> iassumption

end Body

end Cert.KernelIdeal.Own

end
-- ==== Proof.Deal.lean ====
/- The start: what the launch gives out, dealt to the devices that use it. -/
module

public import proofs.«01_k».proof.Proof.Body

@[expose] public section

noncomputable section

namespace Cert.KernelIdeal.Own

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Families over names -/

theorem option_univ {T : Type} [Fintype T] [DecidableEq T] : (Finset.univ : Finset (Option T)).erase none = Finset.univ.map Function.Embedding.some := by
  ext x
  rcases x with _ | x <;> simp
theorem option_eq {T : Type} [Fintype T] [DecidableEq T] (X : Option T → sProp 𝕄) :
    bigSep Finset.univ X = iprop(X none ∗ bigSep Finset.univ fun t => X (some t)) := by
  rw [bigSep_univ_at _ none, option_univ, bigSep_map]
  rfl
theorem key_eq (X : Key → sProp 𝕄) :
    bigSep Finset.univ X = iprop(six (fun h r => X (false, r, h)) ∗ six (fun h r => X (true, r, h))) := by
  rw [bigSep_univ_prod, bigSep_univ_eq_bigSepL [false, true] (by decide) (by decide), bigSepL_cons_cons, bigSepL_singleton,
    bigSep_univ_prod, bigSep_univ_prod, six_comm (fun h r => X (false, r, h)), six_comm (fun h r => X (true, r, h))]
  rfl
theorem names_eq (X : Option Key → sProp 𝕄) :
    bigSep Finset.univ X = iprop(X none ∗ six (fun h r => X (some (false, r, h))) ∗ six (fun h r => X (some (true, r, h)))) := by
  rw [option_eq, key_eq]

/-- One family for each device, the rings' devices renamed by where each ring sends. -/
theorem six_move (X : Dev nD → Fin 6 → Fin 8 → sProp 𝕄) :
    (bigSep Finset.univ fun c : Dev nD => six (X c)) = bigSep Finset.univ fun c : Dev nD => six fun h r => X (tgt r c) h r := by
  have e : ∀ Y : Dev nD → Fin 6 → Fin 8 → sProp 𝕄, (bigSep Finset.univ fun c : Dev nD => six (Y c))
      = bigSep Finset.univ fun h : Fin 6 => bigSep Finset.univ fun r : Fin 8 => bigSep Finset.univ fun c : Dev nD => Y c h r := by
    intro Y
    rw [bigSep_congr fun c _ => (six_eq (Y c)).symm, bigSep_univ_comm]
    exact bigSep_congr fun h _ => bigSep_univ_comm _
  rw [e, e]
  exact bigSep_congr fun h _ => bigSep_congr fun r _ => bigSep_univ_equiv (ringE r) (fun c => X c h r)

/-! ## The tokens -/

def cells : Finset (GSem nD τ sig) := Finset.univ.map ⟨kcell, kcell_inj⟩
/-- A device's cells' tokens: the barrier's second, and one for each cell. -/
abbrev tokOf (ck : Dev nD × Option (Option Key)) : GSem nD τ sig × ℕ × Bool := match ck.2 with
  | none => (bCell ck.1, 0, true)
  | some k => (kcell (ck.1, k), 0, false)
theorem tokOf_inj : Function.Injective tokOf := by
  rintro ⟨c, _ | k⟩ ⟨c', _ | k'⟩ e
  · exact congrArg (fun c => (c, none)) (kcell_eq.mp (congrArg Prod.fst e)).1
  · cases (congrArg (fun x => x.2.2) e : true = false)
  · cases (congrArg (fun x => x.2.2) e : false = true)
  · exact Prod.ext (kcell_eq.mp (congrArg Prod.fst e)).1 (congrArg some (kcell_eq.mp (congrArg Prod.fst e)).2)
def tokens : Finset (GSem nD τ sig × ℕ × Bool) := Finset.univ.map ⟨tokOf, tokOf_inj⟩

/-- What the launch starts from: the pipeline's, the protocol's cells and their tokens. -/
def u₀ : UU := (initOf (Pipeline.cells cfgs cellOf_inj) (Pipeline.launchToks cfgs cellOf_inj), initOf cells tokens)

/-- The tokens of a device's own cells, -/
def toks (c : Dev nD) : sProp 𝕄 :=
  iprop(dutyTok ER (bCell c) 0 true ∗ dutyTok ER (bCell c) 0 false
    ∗ six (fun h r => dutyTok ER (sCell c r h) 0 false) ∗ six (fun h r => dutyTok ER (vCell c r h) 0 false))
/-- and those it pays with. -/
def payToks (c : Dev nD) : sProp 𝕄 :=
  iprop(dutyTok ER (bCell (prv c)) 0 true ∗ dutyTok ER (bCell (nxt c)) 0 false
    ∗ six (fun h r => dutyTok ER (sCell c r h) 0 false) ∗ six (fun h r => dutyTok ER (vCell (tgt r c) r h) 0 false))
theorem toks_around : (bigSep Finset.univ fun c : Dev nD => (toks (F := F) c : sProp 𝕄)) = bigSep Finset.univ fun c : Dev nD => payToks c := by
  unfold toks payToks
  simp only [bigSep_sep']
  rw [bigSep_univ_equiv nxtE.symm (fun c : Dev nD => (dutyTok ER (bCell c) 0 true : sProp 𝕄)),
    bigSep_univ_equiv nxtE (fun c : Dev nD => (dutyTok ER (bCell c) 0 false : sProp 𝕄)),
    six_move (fun c h r => (dutyTok ER (vCell c r h) 0 false : sProp 𝕄))]
  rfl

/-- What a device is given at first: its cells' states, positions and tokens. -/
def G (c : Dev nD) : sProp 𝕄 :=
  iprop((bigSep Finset.univ fun k : Option Key => roundState ER (sched m ρ) (kcell (c, k)) 0)
    ∗ (bigSep Finset.univ fun k : Option Key => iprop(atPos ER (kcell (c, k)) 0 ∅ 0 ∗ reached ER (kcell (c, k)) 0)) ∗ toks c)

theorem fund : BI.own (ER (initOf cells tokens)) ⊢ (|==> bigSep Finset.univ (G m ρ) : sProp 𝕄) := by
  have hX (Φ : GSem nD τ sig → sProp 𝕄) : bigSep cells Φ = bigSep Finset.univ fun c : Dev nD => bigSep Finset.univ fun k : Option Key => Φ (kcell (c, k)) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => by unfold toks; rw [option_eq, names_eq]; rfl
  iintro HX
  imod (Rounds.fund ER (sched m ρ) cells tokens) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The cells' invariants -/

abbrev ownSems (c : Dev nD) : sProp 𝕄 := Pipeline.ownSems0 (Ix := Unit) (Name := ℕ) (U := UU) (Lvl := ℕ) (Val := Elt F) (τ := τ) osem c
theorem ownSems_eq (c : Dev nD) : (ownSems c : sProp 𝕄) = bigSep Finset.univ fun k : Key => semVal (kcell (c, some k)) 0 := rfl
theorem unscoped_eq (c : Dev nD) : (unscopedSems0 c : sProp 𝕄) = semVal (bCell c) 0 := by
  unfold unscopedSems0; rw [bigSep_eq_bigSepL_of_eq [SemLoc.reg qB] (by decide) (by decide)]; rfl
theorem sems_eq (c : Dev nD) : iprop(ownSems c ∗ unscopedSems0 c) ⊢ (bigSep Finset.univ fun k : Option Key => semVal (kcell (c, k)) 0 : sProp 𝕄) := by
  rw [ownSems_eq, unscoped_eq, option_eq]
  iintro ⟨Ha, Hb⟩
  isplitl [Hb] <;> iassumption
theorem zeros_eq (c : Dev nD) : (zeros c : sProp 𝕄) ⊢ iprop(unscopedSems0 c ∗ ownSems c) := by
  rw [ownSems_eq, unscoped_eq, key_eq]
  unfold zeros
  iintro ⟨HV, HS, Hb⟩
  isplitl [Hb]; · iexact Hb
  isplitl [HS]; · iexact HS
  iexact HV

/-- A device's cells with their invariants. -/
def H (c : Dev nD) : sProp 𝕄 :=
  iprop((bigSep Finset.univ fun k : Option Key => iprop(∃ κ : ℕ, cellInv ER (sched m ρ) κ (kcell (c, k))))
    ∗ (bigSep Finset.univ fun k : Option Key => iprop(atPos ER (kcell (c, k)) 0 ∅ 0 ∗ reached ER (kcell (c, k)) 0)) ∗ toks c)
theorem invs_alloc (c : Dev nD) :
    iprop((bigSep Finset.univ fun k : Option Key => semVal (kcell (c, k)) 0) ∗ bigSep Finset.univ fun k : Option Key => roundState ER (sched m ρ) (kcell (c, k)) 0)
      ⊢ (|={Set.univ}=> bigSep Finset.univ fun k : Option Key => iprop(∃ κ : ℕ, cellInv ER (sched m ρ) κ (kcell (c, k))) : sProp 𝕄) := by
  rw [← bigSep_sep']
  exact (bigSep_mono fun k _ => (Rounds.body_intro ER (sched m ρ) (kcell (c, k))).trans inv_alloc).trans (bigSep_fupd _ _)
theorem cells_alloc (c : Dev nD) : iprop(ownSems c ∗ unscopedSems0 c ∗ G m ρ c) ⊢ |={Set.univ}=> H m ρ c := by
  unfold G H
  iintro ⟨Hos, Hus, Hst, Hat, Htok⟩
  ihave Hv := (sems_eq (F := F) c) $$ [Hos Hus]
  · isplitl [Hos] <;> iassumption
  imod (invs_alloc m ρ c) $$ [Hv Hst] with Hinv
  · isplitl [Hv] <;> iassumption
  imodintro
  isplitl [Hinv]; · iexact Hinv
  isplitl [Hat] <;> iassumption

/-- What each device has of the protocol once the tokens are dealt. -/
def linear (c : Dev nD) : sProp 𝕄 := iprop((bigSep Finset.univ fun k : Option Key => atPos ER (kcell (c, k)) 0 ∅ 0) ∗ payToks c)
def G' (c : Dev nD) : sProp 𝕄 := iprop(∃ K, records m ρ K ∗ linear c)

theorem G'_intro (K : Dev nD × Option Key → ℕ) (c : Dev nD) : iprop(records m ρ K ∗ linear c) ⊢ G' m ρ c := by
  unfold G'; iintro H; iexists K; iexact H
theorem with_records (K : Dev nD × Option Key → ℕ) :
    iprop(records m ρ K ∗ bigSep Finset.univ fun c : Dev nD => (linear (F := F) c : sProp 𝕄)) ⊢ bigSep Finset.univ (G' m ρ) :=
  (sep_mono_left (BI.bigSep_of_persistent Finset.univ (records m ρ K))).trans (by rw [← bigSep_sep']; exact bigSep_mono fun c _ => G'_intro m ρ K c)

theorem regroup : (bigSep Finset.univ fun c : Dev nD => H m ρ c : sProp 𝕄) ⊢ bigSep Finset.univ (G' m ρ) := by
  unfold H
  simp only [bigSep_sep']
  rw [← bigSep_univ_prod (fun ck : Dev nD × Option Key => iprop(∃ κ : ℕ, cellInv ER (sched m ρ) κ (kcell ck))),
    ← bigSep_univ_prod (fun ck : Dev nD × Option Key => (reached ER (kcell ck) 0 : sProp 𝕄)), toks_around]
  iintro ⟨HI, ⟨Hat, #HR⟩, Htok⟩
  ihave HK := (BI.bigSep_exists_pi Finset.univ (fun (ck : Dev nD × Option Key) (κ : ℕ) => (cellInv ER (sched m ρ) κ (kcell ck) : sProp 𝕄))) $$ HI
  icases HK with ⟨%K, #HI⟩
  iapply (with_records m ρ K)
  isplitr
  · unfold records; isplitl; · iexact HI
    iexact HR
  · unfold linear
    rw [bigSep_sep']
    isplitl [Hat] <;> iassumption

theorem glob : (bigSep Finset.univ fun c => iprop(ownSems c ∗ unscopedSems0 c ∗ G m ρ c) : sProp 𝕄) ⊢ |={Set.univ}=> bigSep Finset.univ (G' m ρ) :=
  ((bigSep_mono fun c _ => cells_alloc m ρ c).trans (bigSep_fupd _ _)).trans (BI.fupd_mono (regroup m ρ))

/-! ## The credit given at launch -/

theorem owL_at (d c : Dev nD) (r : Fin 8) (h : Fin 6) : ∀ l : List (Fin 8 × Fin 6), l.Nodup →
    owL d l (vCell c r h) () = if (r, h) ∈ l ∧ c = tgt r d then N else 0
  | [], _ => by rw [if_neg (fun h' => List.not_mem_nil h'.1)]; rfl
  | p :: l, hl => by
    rw [owL, Pi.add_apply, Finsupp.add_apply, tallyAt_apply, owL_at d c r h l (List.nodup_cons.mp hl).2]
    have e : (vCell c r h = vCell (tgt p.1 d) p.1 p.2 ∧ () = ()) ↔ c = tgt p.1 d ∧ (r, h) = p :=
      ⟨fun h' => by
        have := kcell_eq.mp h'.1
        have h2 := this.2
        simp only [Option.some.injEq, Prod.mk.injEq, true_and] at h2
        exact ⟨this.1, Prod.ext h2.1 h2.2⟩,
       fun ⟨h1, h2⟩ => ⟨by rw [h1, ← h2], rfl⟩⟩
    by_cases hp : (r, h) = p
    · subst hp
      rw [if_neg (fun h' => (List.nodup_cons.mp hl).1 h'.1), Nat.zero_add]
      by_cases hc : c = tgt r d
      · rw [if_pos (e.mpr ⟨hc, rfl⟩), if_pos ⟨List.mem_cons_self, hc⟩]
      · rw [if_neg (fun h' => hc (e.mp h').1), if_neg (fun h' => hc h'.2)]
    · rw [if_neg (fun h' => hp (e.mp h').2), Nat.add_zero]
      simp only [List.mem_cons, hp, false_or]
theorem pend_nodup : (pend 6).Nodup := by decide +kernel
theorem pend_all : ∀ (r : Fin 8) (h : Fin 6), (r, h) ∈ pend 6 := by decide +kernel

theorem tally_other {g g' : GSem nD τ sig} (h : g ≠ g') (n : ℕ) : (tallyAt g' () n : CellTallies nD τ sig Unit) g () = 0 := by
  rw [tallyAt_apply, if_neg (fun h' => h h'.1)]
theorem owed_v (d c : Dev nD) (r : Fin 8) (h : Fin 6) : O₀ d (vCell c r h) () = if d = src r c then N else 0 := by
  have hb : ∀ a, vCell c r h ≠ bCell a := fun a e => by cases (kcell_eq.mp e).2
  unfold O₀ O₁
  rw [Pi.add_apply, Finsupp.add_apply, Pi.add_apply, Finsupp.add_apply, tally_other (hb _), tally_other (hb _), Nat.add_zero,
    owL_at d c r h _ pend_nodup]
  by_cases e : d = src r c
  · rw [if_pos e, if_pos ⟨pend_all r h, by rw [e, tgt_src]⟩]
  · rw [if_neg e, if_neg (fun h' => e (by rw [h'.2, src_tgt]))]
theorem owed_b (d c : Dev nD) : O₀ d (bCell c) () = (if d = prv c then 1 else 0) + (if d = nxt c then 1 else 0) := by
  have h0 : owL d (pend 6) (bCell c) () = 0 := by
    by_contra hn
    obtain ⟨p, _, e⟩ := owL_pos (Nat.pos_of_ne_zero hn)
    cases (kcell_eq.mp e).2
  unfold O₀ O₁
  rw [Pi.add_apply, Finsupp.add_apply, Pi.add_apply, Finsupp.add_apply, h0, Nat.zero_add, tallyAt_apply, tallyAt_apply]
  congr 1
  · by_cases e : d = prv c
    · rw [if_pos e, if_pos ⟨by rw [e, nxt_prv], rfl⟩]
    · rw [if_neg e, if_neg (fun h' => e (by rw [(kcell_eq.mp h'.1).1, prv_nxt]))]
  · by_cases e : d = nxt c
    · rw [if_pos e, if_pos ⟨by rw [e, prv_nxt], rfl⟩]
    · rw [if_neg e, if_neg (fun h' => e (by rw [(kcell_eq.mp h'.1).1, nxt_prv]))]

theorem launch_b (c : Dev nD) : tallyOn (bCell c) (launchCredit (Pipeline.owing O₀) 0 (bCell c)) = (tallyAt (bCell c) () 2 : CellTallies nD τ sig Unit) := by
  unfold tallyAt; refine congrArg _ (Finsupp.ext fun u => ?_); cases u
  rw [Pipeline.launchCredit_owing, Finsupp.single_eq_same, Finset.sum_congr rfl fun d _ => owed_b d c, Finset.sum_add_distrib,
    Finset.sum_ite_eq' Finset.univ (prv c) fun _ => 1, Finset.sum_ite_eq' Finset.univ (nxt c) fun _ => 1, if_pos (Finset.mem_univ _), if_pos (Finset.mem_univ _)]
theorem launch_v (c : Dev nD) (r : Fin 8) (h : Fin 6) :
    tallyOn (vCell c r h) (launchCredit (Pipeline.owing O₀) 0 (vCell c r h)) = (tallyAt (vCell c r h) () N : CellTallies nD τ sig Unit) := by
  unfold tallyAt; refine congrArg _ (Finsupp.ext fun u => ?_); cases u
  rw [Pipeline.launchCredit_owing, Finsupp.single_eq_same, Finset.sum_congr rfl fun d _ => owed_v d c r h, Finset.sum_ite_eq' Finset.univ (src r c) fun _ => N,
    if_pos (Finset.mem_univ _)]

/-- A family over all semaphores contains the one over the protocol's. -/
theorem sems_sub (X : SemLoc sig → sProp 𝕄) : bigSep Finset.univ X ⊢ (bigSep Finset.univ fun k : Option Key => X (csem k)) := by
  have e : bigSep (Finset.univ.map (⟨csem, csem_inj⟩ : Option Key ↪ SemLoc sig)) X = bigSep Finset.univ fun k : Option Key => X (csem k) := bigSep_map _
  rw [← e]
  exact bigSep_subset (Finset.subset_univ _)
theorem creds (c : Dev nD) : (Pipeline.launchCred O₀ c : sProp 𝕄)
    ⊢ iprop(cred (tallyAt (bCell c) () 2) ∗ six (fun h r => cred (tallyAt (vCell c r h) () N))) := by
  unfold Pipeline.launchCred
  refine (sems_sub _).trans ?_
  rw [names_eq]
  rw [show (fun (h : Fin 6) (r : Fin 8) => (cred (tallyOn ((c.tc : Thread nD τ), csem (some (true, r, h)))
      (launchCredit (Pipeline.owing O₀) 0 ((c.tc : Thread nD τ), csem (some (true, r, h))))) : sProp 𝕄))
      = fun h r => cred (tallyAt (vCell c r h) () N) from funext fun h => funext fun r => congrArg cred (launch_v c r h)]
  rw [show ((c.tc : Thread nD τ), csem none) = bCell c from rfl, launch_b]
  iintro ⟨Hb, -, HV⟩
  isplitl [Hb] <;> iassumption

/-- What a device's body starts the protocol with. -/
def start (c : Dev nD) : sProp 𝕄 := iprop(∃ K, env m ρ K ∗ ghost c)

theorem ghost_intro (c : Dev nD) :
    iprop(linear c ∗ cred (tallyAt (bCell c) () 2) ∗ six (fun h r => cred (tallyAt (vCell c r h) () N))) ⊢ (ghost c : sProp 𝕄) := by
  unfold linear payToks ghost
  rw [names_eq]
  have e1 : iprop(six (fun h r => dutyTok ER (sCell c r h) 0 false) ∗ six (fun h r => dutyTok ER (vCell (tgt r c) r h) 0 false)) = (six (tok c) : sProp 𝕄) := six_sep _ _
  have e2 : iprop(six (fun h r => cred (tallyAt (vCell c r h) () N)) ∗ six (fun h r => atPos ER (vCell c r h) 0 ∅ 0)) = (six (atV c) : sProp 𝕄) := six_sep _ _
  rw [← e1, ← e2]
  iintro ⟨⟨⟨Hb, HS, HV⟩, T1, T2, T3, T4⟩, Hc, HC⟩
  isplitl [T1]; · iexact T1
  isplitl [T2]; · iexact T2
  isplitl [Hb]; · iexact Hb
  isplitl [Hc]; · iexact Hc
  isplitl [T3 T4]
  · isplitl [T3] <;> iassumption
  isplitl [HC HV]
  · isplitl [HC] <;> iassumption
  iexact HS
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  unfold G'
  icases HG with ⟨%K, HR, HL⟩
  ihave Hg := (ghost_intro (F := F) c) $$ [HL H1 HN]
  · isplitl [HL]; · iexact HL
    isplitl [H1] <;> iassumption
  imodintro
  unfold start env
  isplitl
  · iexists K
    isplitl [HR Hlev]
    · isplitl [HR] <;> iassumption
    iexact Hg
  · iempintro

end Cert.KernelIdeal.Own

end
-- ==== Proof.BodyEq.lean ====
/- The printed body is the loops of `gbody`, by unfolding. -/
module

public import proofs.«01_k».proof.Proof.Prog

@[expose] public section

noncomputable section

namespace Cert.KernelIdeal.Own

open Idealize.ShloMosaic Idealize.ShloMosaic.TcCoe Idealize.SL.Sem
open Cert.KernelIdeal.Gen

variable {F : FTy → Type} [FloatOps F]

set_option maxRecDepth 1000000 in
set_option maxHeartbeats 4000000 in
/-- The printed body reads its device and runs as the loops. -/
theorem body_eq (ht0 ht1 ht2 h0 h1 h2) :
    cc0_body (F := F) aX ht0 aW ht1 aO ht2 aP h0 aS h1 aR h2 cc0_scratch3 cc0_scratch4
      = (do let c ← Prog.lift .deviceId; gbody c : PG F PUnit) := by
  rw [cc0_body_eq_skeleton]
  rfl

end Cert.KernelIdeal.Own

end
-- ==== Proof.Run.lean ====
/- The run: the body as the pipeline calls it, and the whole mesh from launch to end. -/
module

public import proofs.«01_k».proof.Proof.Deal
public import proofs.«01_k».proof.Proof.BodyEq
public import Idealize.ShloMosaic.Lib.Pipeline.CollectiveSegs
public import Idealize.ShloMosaic.Lib.Pipeline.ValueKit.Geometry

@[expose] public section

noncomputable section

namespace Cert.KernelIdeal.Own

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The scratch buffers at contents of no interest. -/
def scratch (c : Dev nD) : sProp 𝕄 := iprop(any (F := F) c cc0_scratch0 ∗ any (F := F) c cc0_scratch1 ∗ any (F := F) c cc0_scratch2)
/-- Before the body, and after it. -/
def Φ₀ (c : Dev nD) : sProp 𝕄 := iprop(start m ρ c ∗ scratch (F := F) c)
def Φ₁ (c : Dev nD) : sProp 𝕄 := iprop(scratch (F := F) c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outT m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body's obligation -/

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

set_option maxRecDepth 100000 in
def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ c ∗ (dats m ρ 0 c).owesAt () t₀.succ ∗ stg c cc0_stg0_0 (xstg m ρ c) ∗ stg c cc0_stg1_0 (wstg m ρ c) ∗ stg c cc0_stg2_0 (outT m ρ))

theorem out_free (c : Dev nD) (f : Buf (Elt F) ((c : Thread nD τ).loc cc0_stg2_0)) :
    (((c : Thread nD τ).loc cc0_stg2_0) ↦{fullShare} f) ⊢ (free (F := F) c aO : sProp 𝕄) := by
  have h : (((c : Thread nD τ).loc cc0_stg2_0) ↦{fullShare} f : sProp 𝕄) ⊢ owns (c : Thread nD τ) aO fullShare f := by
    rw [owns_whole_eq c cc0_stg2_0 f]
    iintro H
    iexists f
    isplitr; · (ipureintro; rfl)
    iexact H
  exact h.trans (free_intro c aO f)

theorem owed_exit (c : Dev nD) : ow c (owL c []) ⊢ ((dats m ρ 0 c).owesAt () t₀.succ : sProp 𝕄) := by
  unfold Dat.owesAt Pipeline.owesWithin ow
  rw [show (dats m ρ 0 c).owed t₀.succ = owL c [] from rfl]
  iintro ⟨%W, H⟩
  iexists W
  isplitr; · (ipureintro; exact fun _ _ => Or.inl trivial)
  iexact H

theorem sound (c : Dev nD) : bodyPre m ρ c ⊢ Wp c (gbody c) (fun _ => bodyPost m ρ c) := by
  unfold bodyPre Φ₀ start scratch
  iintro ⟨⟨⟨%K, #HE, Hg⟩, S0, S1, S2⟩, Ho, ⟨%d0, %f0, %h0, Hx⟩, ⟨%d1, %f1, %h1, Hw⟩, ⟨%d2, %f2, %h2, Hout⟩⟩
  have e0 : f0 = xstg m ρ c := by rw [h0]; unfold Dat.before; rw [if_pos (fetch0_0 t₀)]; rfl
  have e1 : f1 = wstg m ρ c := by rw [h1]; unfold Dat.before; rw [if_pos (fetch0_1 t₀)]; rfl
  subst e0 e1
  unfold Dat.owesAt Pipeline.owesWithin
  icases Ho with ⟨%W, %hW, HO⟩
  rw [show (dats m ρ 0 c).owed t₀.castSucc = O₀ c from rfl]
  ihave Hf := (out_free c f2) $$ Hout
  iapply (body_run m ρ K c (Q := fun _ => bodyPost m ρ c)) $$ [Hg S0 S1 S2 HO Hx Hw Hf]
  · isplitr; · iexact HE
    isplitl [HO]; · unfold ow; iexists W; iexact HO
    isplitl [Hx]; · iexact Hx
    isplitl [Hw]; · iexact Hw
    isplitl [Hf]; · iexact Hf
    isplitl [S0]; · iexact S0
    isplitl [S1]; · iexact S1
    isplitl [S2] <;> iassumption
  iintro ⟨HO, Hx, Hw, Hout, S0, S1, S2, Hz⟩
  unfold bodyPost Φ₁ scratch
  isplitl [S0 S1 S2 Hz]
  · isplitl [S0 S1 S2]
    · isplitl [S0]; · iexact S0
      isplitl [S1] <;> iassumption
    iexact Hz
  isplitl [HO]; · iapply (owed_exit m ρ c) $$ HO
  isplitl [Hx]
  · iexists _; isplitr; · (ipureintro; rfl)
    iexact Hx
  isplitl [Hw]
  · iexists _; isplitr; · (ipureintro; rfl)
    iexact Hw
  iapply (Entails.of_eq (owns_whole_eq c cc0_stg2_0 (outT m ρ))) $$ Hout

set_option maxRecDepth 100000 in
theorem body_wp (c : Dev nD) (ht0 ht1 ht2 h0 h1 h2) (Q : PUnit → sProp 𝕄) :
    Wp c (gbody c) Q ⊢ Wp c (cc0_body (F := F) aX ht0 aW ht1 aO ht2 aP h0 aS h1 aR h2 cc0_scratch3 cc0_scratch4) Q := by
  rw [body_eq]
  simp only [Prog.lift, Prog.bind_op, Prog.bind_ret, wp_deviceId]
  exact Entails.of_eq rfl

set_option maxRecDepth 100000 in
/-- The library's obligation for the body of core `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ c none) Set.univ
    (cc0_body aX (Memref.isWhole_whole _) aW (Memref.isWhole_whole _) aO (Memref.isWhole_whole _) aP (Memref.isWhole_whole _)
      aS (Memref.isWhole_whole _) aR (Memref.isWhole_whole _) cc0_scratch3 cc0_scratch4) (fun _ => bodyPost m ρ c)
  exact (sound m ρ c).trans (body_wp c _ _ _ _ _ _ _)

/-! ## The launch -/

theorem ownSemFacts : Pipeline.OwnSemFacts cfg0.spec osem := by decide +kernel
theorem share_eq (c : Dev nD) (w : Fin cfg0.W) : (dats m ρ 0 c).share w = fullShare := by unfold Dat.share; split <;> rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  iintro ⟨Hr, Hz⟩
  ihave Hz := (zeros_eq (F := F) c) $$ Hz
  icases Hz with ⟨Hb, Ho⟩
  isplitl [Hb]; · iexact Hb
  isplitl [Ho] <;> iassumption

theorem stage_other : ∀ (w : Fin 3) (s : Fin (spec0 w).nbuf) (k : Key), SemLoc.dma ((spec0 w).sem s) ≠ osem k := by decide +kernel
theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_other w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N
/-- Every window's array ends at its final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with all semaphores at zero, over any float values, every weakly fair run of the four devices
    ends with every window's array at its final contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they began, -/
theorem finalA_x (c : Dev nD) : finalA m ρ c (0 : Fin 3) = m ((c : Thread nD τ).loc main_arg0) := (dats (F := F) m ρ 0 c).arrAt_in (0 : Fin 3) rfl _
theorem finalA_w (c : Dev nD) : finalA m ρ c (1 : Fin 3) = m ((c : Thread nD τ).loc main_arg1) := (dats (F := F) m ρ 0 c).arrAt_in (1 : Fin 3) rfl _
/-- and the result holds the finished blocks. -/
theorem finalA_out (c : Dev nD) : finalA m ρ c (2 : Fin 3) = outT m ρ := by
  refine (dats (F := F) m ρ 0 c).arrAt_eq_of_after_last (2 : Fin 3) t₀ (by decide +kernel) (outT m ρ) fun j => ?_
  rfl

/-- The arguments and the result of every device after the run. -/
theorem run_mem : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = outT m ρ) ∧ r.2.sem = fun _ => 0) :=
  (θ_run defs _ _).mono (fun r h => ⟨fun c => ⟨(h.1 c (0 : Fin 3)).trans (finalA_x m ρ c), (h.1 c (1 : Fin 3)).trans (finalA_w m ρ c),
    (h.1 c (2 : Fin 3)).trans (finalA_out m ρ c)⟩, h.2⟩) (run_main m ρ)

end Cert.KernelIdeal.Own

end
-- ==== Proof.Value.lean ====
/- The value: over the extended reals the finished blocks are the product of the whole arrays. -/
module

public import proofs.«01_k».proof.Proof.Run
public import proofs.«01_k».proof.Proof.Gen.ReferenceIdeal.Run
public import Idealize.ShloMosaic.Lib.MatmulPlain
public import Idealize.ShloMosaic.Lib.StackMember

@[expose] public section

noncomputable section

namespace Cert.KernelIdeal.Own

open Cert.KernelIdeal.Gen
open Idealize.ShloMosaic Idealize.ShloMosaic.TcCoe

open Idealize.ShloMosaic.ValueIdx
open scoped BigOperators

/-! ## Sums -/

/-- A sum over 1024 positions is a sum over four runs of 256. -/
theorem sum_four_runs (f : ℕ → EReal) : ∑ k : Fin 1024, f k.val = ∑ c : Fin 4, ∑ k : Fin 256, f (256 * c.val + k.val) := by
  rw [← Fintype.sum_prod_type' (fun (c : Fin 4) (k : Fin 256) => f (256 * c.val + k.val)),
    ← Equiv.sum_comp (finProdFinEquiv (m := 4) (n := 256)) (fun k : Fin 1024 => f k.val)]
  exact Finset.sum_congr rfl fun p _ => congrArg f (by show p.2.val + 256 * p.1.val = _; omega)

/-- Summing over all devices is adding the terms of the four devices met going back along a ring. -/
theorem sum_ring (r : Fin 8) (q : Dev nD) (f : Dev nD → EReal) :
    ∑ c : Dev nD, f c = f (src r q) + (f (src r (src r q)) + (f (src r (src r (src r q))) + f q)) := by
  have h : ∀ (r : Fin 8) (q : Dev nD), (Finset.univ : Finset (Dev nD)) = [src r q, src r (src r q), src r (src r (src r q)), q].toFinset
      ∧ [src r q, src r (src r q), src r (src r (src r q)), q].Nodup := by decide
  rw [(h r q).1, List.sum_toFinset _ (h r q).2]
  simp

/-! ## The products, read at an index -/

variable (m : (ℓ : Loc nD τ sig) → Buf (Elt Ideal) ℓ) (ρ : Dev nD → PrngReg)

theorem dotv_apply (w : FVec Ideal S256x1024 .bf16) (x : FVec Ideal S256x256 .bf16) (i : Fin 256) (n : Fin 1024) :
    dotv w x (ix2 i n) = (∑ k : Fin 256, x (ix2 i k) * w (ix2 k n) : EReal) := by
  show shapeCast S256x1024 (truncf (F := Ideal) .bf16 (FloatOps.matmul (DotDims.plain 256 256 1024) none (shapeCast S256x256 x _) (shapeCast S256x1024 w _)
    (constant S256x1024 .f32 0x00000000#32)) _) _ (ix2 i n) = _
  rw [shapeCast_self, shapeCast_self, shapeCast_self]
  show FloatOps.matmul (DotDims.plain 256 256 1024) none x w (constant S256x1024 .f32 0x00000000#32) (ix2 i n) = _
  rw [Ideal.matmul_plain_apply]
  refine (congrArg (· + _) ?_).trans (zero_add _)
  show Ideal.ofBits .f32 0x00000000#32 = 0
  simp [Ideal.ofBits, Ideal.ieee]

/-- Where a block's entry lies. -/
theorem unit_val {s : Shape} (o z : Fin s.rank → ℕ) (ho : ∀ a, o a + z a ≤ s.size a) (j : (Rect.unit (s := s) o z ho).shape.Idx) (a : Fin s.rank) :
    ((Rect.unit (s := s) o z ho).emb j a).val = o a + (j a).val := by
  simp [Rect.emb, Rect.unit]

theorem xstg_eq (c : Dev nD) : xstg m ρ c = m ((c : Thread nD τ).loc main_arg0) := by
  funext i
  refine congrArg (m ((c : Thread nD τ).loc main_arg0)) (funext fun a => Fin.ext ?_)
  fin_cases a <;> simp <;> rfl
theorem wstg_eq (c : Dev nD) : wstg m ρ c = m ((c : Thread nD τ).loc main_arg1) := by
  funext i
  refine congrArg (m ((c : Thread nD τ).loc main_arg1)) (funext fun a => Fin.ext ?_)
  fin_cases a <;> simp <;> rfl

/-- The whole arrays. -/
abbrev XX := FVec Ideal ⟨2, ![1024, 1024]⟩ .bf16

/-- Entry `(i, n)` of the product of the whole arrays, positions given as numbers. -/
def prodAt (X W : XX) (i n : Fin 1024) : EReal := ∑ k : Fin 1024, X (ix2 i k) * W (ix2 k n)
/-- and its part over the columns of `X` that device `c` holds. -/
def partAt (X W : XX) (c : Dev nD) (i n : Fin 1024) : EReal :=
  ∑ k : Fin 256, X (ix2 i ⟨256 * c.val + k.val, by have h1 := c.isLt; have h2 := k.isLt; change c.val < 4 at h1; omega⟩)
    * W (ix2 ⟨256 * c.val + k.val, by have h1 := c.isLt; have h2 := k.isLt; change c.val < 4 at h1; omega⟩ n)

theorem prodAt_eq (X W : XX) (i n : Fin 1024) : prodAt X W i n = ∑ c : Dev nD, partAt X W c i n := by
  have h := sum_four_runs fun k => if hk : k < 1024 then X (ix2 i ⟨k, hk⟩) * W (ix2 ⟨k, hk⟩ n) else 0
  unfold prodAt partAt
  refine Eq.trans (Finset.sum_congr rfl fun k _ => ?_) (h.trans (Finset.sum_congr rfl fun c _ => Finset.sum_congr rfl fun k _ => ?_))
  · rw [dif_pos k.isLt]
  · rw [dif_pos]

/-- The devices hold the columns of `X` and the rows of `W` in order. -/
def Cut (X W : XX) : Prop := ∀ c : Dev nD,
  m ((c : Thread nD τ).loc main_arg0) = Layout.block ⟨2, ![1024, 256]⟩ ⟨2, ![1024, 1024]⟩ 1 4 c X
  ∧ m ((c : Thread nD τ).loc main_arg1) = Layout.block ⟨2, ![256, 1024]⟩ ⟨2, ![1024, 1024]⟩ 0 4 c W

/-- The row and column of entry `(i, n)` of the block of rows `q` and ring `r`. -/
def rowOf (q : Dev nD) (i : Fin 256) : Fin 1024 := ⟨256 * q.val + i.val, by have h1 := q.isLt; have h2 := i.isLt; change q.val < 4 at h1; omega⟩
def colOf (r : Fin 8) (n : Fin 128) : Fin 1024 := ⟨128 * cb r + n.val, by have h1 := cb_lt r; have h2 := n.isLt; omega⟩

theorem Pb_apply {X W : XX} (h : Cut m X W) (c q : Dev nD) (r : Fin 8) (i : Fin 256) (n : Fin 128) :
    Pb m ρ c q r (ix2 i n) = partAt X W c (rowOf q i) (colOf r n) := by
  show dotv (wv m ρ c) (xrow m ρ c q) _ = _
  refine (congrArg (dotv (wv m ρ c) (xrow m ρ c q)) (show _ = ix2 i (colOf r n) from ?_)).trans ((dotv_apply _ _ _ _).trans ?_)
  · funext a
    match a with
    | ⟨0, _⟩ => rfl
    | ⟨1, _⟩ => rfl
  refine Finset.sum_congr rfl fun k _ => congrArg₂ (· * ·) ?_ ?_
  · show xstg m ρ c ((rX q).emb (ix2 i k)) = _
    rw [xstg_eq, (h c).1, Layout.block_apply]
    refine congrArg X (funext fun a => Fin.ext ?_)
    match a with
    | ⟨0, _⟩ => exact unit_val ..
    | ⟨1, _⟩ =>
      have e : ((rX q).emb (ix2 i k) 1).val = 0 + k.val := unit_val _ _ _ _ _
      show c.val * 256 + ((rX q).emb (ix2 i k) 1).val = 256 * c.val + k.val
      omega
  · show wstg m ρ c (rW.emb (ix2 k (colOf r n))) = _
    rw [wstg_eq, (h c).2, Layout.block_apply]
    refine congrArg W (funext fun a => Fin.ext ?_)
    match a with
    | ⟨0, _⟩ =>
      have e : (rW.emb (ix2 k (colOf r n)) 0).val = 0 + k.val := unit_val _ _ _ _ _
      show c.val * 256 + (rW.emb (ix2 k (colOf r n)) 0).val = 256 * c.val + k.val
      omega
    | ⟨1, _⟩ =>
      have e : (rW.emb (ix2 k (colOf r n)) 1).val = 0 + (colOf r n).val := unit_val _ _ _ _ _
      exact e.trans (Nat.zero_add _)

/-- A finished block is the block of the whole product. -/
theorem full_apply {X W : XX} (h : Cut m X W) (q : Dev nD) (r : Fin 8) (i : Fin 256) (n : Fin 128) :
    full m ρ q r (ix2 i n) = prodAt X W (rowOf q i) (colOf r n) := by
  have hb : ∀ (r : Fin 8) (q : Dev nD), bk r 3 (src r q) = q ∧ bk r 2 (src r (src r q)) = q ∧ bk r 1 (src r (src r (src r q))) = q
      ∧ src r (src r (src r (src r q))) = q := by decide
  obtain ⟨h3, h2, h1, h0⟩ := hb r q
  rw [prodAt_eq, sum_ring r q, ← Pb_apply m ρ h, ← Pb_apply m ρ h, ← Pb_apply m ρ h, ← Pb_apply m ρ h]
  show (Pb m ρ (src r q) (bk r 3 (src r q)) r (ix2 i n)
    + (Pb m ρ (src r (src r q)) (bk r 2 (src r (src r q))) r (ix2 i n)
      + (Pb m ρ (src r (src r (src r q))) (bk r 1 (src r (src r (src r q)))) r (ix2 i n)
        + Pb m ρ (src r (src r (src r (src r q)))) (src r (src r (src r (src r q)))) r (ix2 i n))) : EReal) = _
  rw [h3, h2, h1, h0]

/-- The result is the product of the whole arrays. -/
theorem outT_apply {X W : XX} (h : Cut m X W) (a b : Fin 1024) : outT m ρ (ix2 a b) = prodAt X W a b := by
  obtain ⟨p, _, hp⟩ := Finset.mem_biUnion.mp (show (ix2 a b : S1024x1024.Idx) ∈ (Finset.univ : Finset (Dev nD × Fin 8)).biUnion (fun p => (rB p.1 p.2).set) by
    rw [rB_cover]; exact Finset.mem_univ _)
  rw [← (rB p.1 p.2).map_emb_univ] at hp
  obtain ⟨j, _, hj⟩ := Finset.mem_map.mp hp
  obtain ⟨i, n, rfl⟩ : ∃ (i : Fin 256) (n : Fin 128), j = ix2 i n := ⟨j 0, j 1, eq_ix2 j⟩
  have ea : a = rowOf p.1 i := by
    have e : ((rB p.1 p.2).emb (ix2 i n) 0).val = 256 * p.1.val + i.val := unit_val _ _ _ _ _
    exact Fin.ext ((congrArg (fun z : S1024x1024.Idx => (z 0).val) hj).symm.trans e)
  have eb : b = colOf p.2 n := by
    have e : ((rB p.1 p.2).emb (ix2 i n) 1).val = 128 * cb p.2 + n.val := unit_val _ _ _ _ _
    exact Fin.ext ((congrArg (fun z : S1024x1024.Idx => (z 1).val) hj).symm.trans e)
  rw [← hj, outT_emb, ea, eb, ← full_apply m ρ h]
  rfl

/-- It is what the reference computes. -/
theorem outT_eq {X W : XX} (h : Cut m X W) :
    outT m ρ = extf (F := Ideal) .f32 (truncf .bf16 (Host.dotGeneral Cert.ReferenceIdeal.dot_S1024x1024_S1024x1024_S1024x1024_1_0_0_1_n_n none X W)
      Cert.ReferenceIdeal.Facts₀.bitsLt_bf16_f32) Cert.ReferenceIdeal.Facts₀.bitsLt_bf16_f32 := by
  funext z
  obtain ⟨a, b, rfl⟩ : ∃ (a : Fin 1024) (b : Fin 1024), z = ix2 a b := ⟨z 0, z 1, eq_ix2 z⟩
  refine (outT_apply m ρ h a b).trans ?_
  exact (StackMember.dotGeneral_plain_apply none X W a b).symm

end Cert.KernelIdeal.Own

end
-- ==== Proof.lean ====
/- The five claims: the frames of the kernel at machine words and at the extended reals, the reference's frame, that nothing
   was rewritten between the two readings of the kernel, and that the kernel computes the reference's product. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

set_option maxRecDepth 100000

namespace Cert.Proof

open Idealize.ShloMosaic Idealize.ShloMosaic.TcCoe Idealize.SL.Sem
open Cert.KernelIdeal.Own

/-- The two readings of the kernel have one body table: at machine words their bodies are the same program. -/
theorem bodies_eq : Cert.Kernel.defs₀ (F := Bits) = Cert.KernelIdeal.defs₀ := by
  unfold Cert.Kernel.defs₀ Cert.KernelIdeal.defs₀
  refine congrArg Defs.onTc ?_
  funext ℓ a
  match ℓ, a with
  | 0, ⟨t, s⟩ => rfl
  | ⟨_ + 1, h⟩, _ => exact absurd h (Nat.not_lt.2 (Nat.le_add_left _ _))
theorem defs_eq : Cert.Kernel.defs (F := Bits) = Cert.KernelIdeal.defs := congrArg (Pipeline.defs Cert.KernelIdeal.pcfgs) bodies_eq

/-- The kernel at machine words: every weakly fair run from zeroed semaphores ends with the arguments unchanged and
    the semaphores at zero. Its text is that of the other reading, so the one run serves. -/
theorem frame_kernel : Cert.quiescent_Kernel := fun m ρ _ => by
  rw [defs_eq]
  exact (θ_run Cert.KernelIdeal.defs _ _).mono (fun _ h => ⟨fun c => ⟨(h.1 c).1, (h.1 c).2.1⟩, h.2⟩) (run_mem (F := Bits) m ρ)

/-- The same over the extended reals. -/
theorem frame_ideal : Cert.quiescent_KernelIdeal := fun m ρ _ =>
  (θ_run Cert.KernelIdeal.defs _ _).mono (fun _ h => ⟨fun c => ⟨(h.1 c).1, (h.1 c).2.1⟩, h.2⟩) (run_mem (F := Ideal) m ρ)

/-- The reference: it has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel leaves the reference's product on every device. -/
theorem value : Cert.algebraic_KernelIdeal_ReferenceIdeal := fun m ρ m' ρ' _ hm => by
  refine ⟨_, (θ_run Cert.KernelIdeal.defs _ _).mono (fun _ h c => ⟨((h.1 c).2.2).trans (outT_eq m ρ hm), (h.1 c).1, (h.1 c).2.1⟩) (run_mem (F := Ideal) m ρ),
    (θ_run Cert.ReferenceIdeal.defs _ _).mono (fun _ h => h 0) (Cert.ReferenceIdeal.Value.run (F := Ideal) m' ρ')⟩

/-- Everything claimed. -/
theorem claim : Cert.Claim := ⟨Cert.Kernel.Gen.facts, Cert.KernelIdeal.Gen.facts, Cert.ReferenceIdeal.Gen.facts,
  frame_kernel, frame_ideal, frame_reference, trivial, value⟩

end Cert.Proof

end
